-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x30x64x64x64 : Shape := ⟨5, ![4, 30, 64, 64, 64]⟩
abbrev S10x3x8192x128 : Shape := ⟨4, ![10, 3, 8192, 128]⟩
abbrev S4x10x4x64x64 : Shape := ⟨5, ![4, 10, 4, 64, 64]⟩
abbrev S10x1x512x128 : Shape := ⟨4, ![10, 1, 512, 128]⟩
abbrev S4x32x128 : Shape := ⟨3, ![4, 32, 128]⟩
abbrev S1x1x4x32x64 : Shape := ⟨5, ![1, 1, 4, 32, 64]⟩
abbrev S4x32x64 : Shape := ⟨3, ![4, 32, 64]⟩
abbrev S128x128 : Shape := ⟨2, ![128, 128]⟩
abbrev S1x1x128x128 : Shape := ⟨4, ![1, 1, 128, 128]⟩
abbrev S10x3x2048x4x128 : Shape := ⟨5, ![10, 3, 2048, 4, 128]⟩
abbrev S4x3x2048x128x10 : Shape := ⟨5, ![4, 3, 2048, 128, 10]⟩
abbrev S4x786432x10 : Shape := ⟨3, ![4, 786432, 10]⟩

abbrev nBuf : Space → Nat
  | .hbm => 5
  | .vmem => 4
  | .smem => 0
  | _ => 0

abbrev bufTy : (tb : Table) → Fin (tcTables nBuf tb) → BufTy
  | .hbm, ⟨0, _⟩ => ⟨S4x30x64x64x64, .f32⟩
  | .hbm, ⟨1, _⟩ => ⟨S10x3x8192x128, .f32⟩
  | .hbm, ⟨2, _⟩ => ⟨S10x3x2048x4x128, .f32⟩
  | .hbm, ⟨3, _⟩ => ⟨S4x3x2048x128x10, .f32⟩
  | .hbm, ⟨4, _⟩ => ⟨S4x786432x10, .f32⟩
  | .local _ .vmem, ⟨0, _⟩ => ⟨S4x10x4x64x64, .f32⟩
  | .local _ .vmem, ⟨1, _⟩ => ⟨S4x10x4x64x64, .f32⟩
  | .local _ .vmem, ⟨2, _⟩ => ⟨S10x1x512x128, .f32⟩
  | .local _ .vmem, ⟨3, _⟩ => ⟨S10x1x512x128, .f32⟩
  | _, _ => ⟨S4x30x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 3], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, arg0.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S4x10x4x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10x1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S4x30x64x64x64 : Shape := ⟨5, ![4, 30, 64, 64, 64]⟩
abbrev S3 : Shape := ⟨1, ![3]⟩
abbrev S4x3x10x64x64x64 : Shape := ⟨6, ![4, 3, 10, 64, 64, 64]⟩
abbrev S4x3x64x64x64x10 : Shape := ⟨6, ![4, 3, 64, 64, 64, 10]⟩
abbrev S4x3x64x64x64x1 : Shape := ⟨6, ![4, 3, 64, 64, 64, 1]⟩
abbrev S4x3x64x64x64 : Shape := ⟨5, ![4, 3, 64, 64, 64]⟩
abbrev S_ : Shape := ⟨0, ![]⟩
abbrev S4x3x64x64x64x5 : Shape := ⟨6, ![4, 3, 64, 64, 64, 5]⟩
abbrev S64 : Shape := ⟨1, ![64]⟩
abbrev S64x1 : Shape := ⟨2, ![64, 1]⟩
abbrev S64x1x1 : Shape := ⟨3, ![64, 1, 1]⟩
abbrev S1x3x1x1x1 : Shape := ⟨5, ![1, 3, 1, 1, 1]⟩
abbrev S1x1x1x1x64 : Shape := ⟨5, ![1, 1, 1, 1, 64]⟩
abbrev S1x1x1x64x1 : Shape := ⟨5, ![1, 1, 1, 64, 1]⟩
abbrev S1x1x64x1x1 : Shape := ⟨5, ![1, 1, 64, 1, 1]⟩
abbrev S4x3x64x64x64x4 : Shape := ⟨6, ![4, 3, 64, 64, 64, 4]⟩
abbrev S4x786432x4 : Shape := ⟨3, ![4, 786432, 4]⟩
abbrev S4x786432x1 : Shape := ⟨3, ![4, 786432, 1]⟩
abbrev S4x786432x5 : Shape := ⟨3, ![4, 786432, 5]⟩
abbrev S4x786432x10 : Shape := ⟨3, ![4, 786432, 10]⟩

abbrev nBuf : Space → Nat
  | .hbm => 94
  | .vmem => 0
  | .smem => 0
  | _ => 0

abbrev bufTy : (tb : Table) → Fin (tcTables nBuf tb) → BufTy
  | .hbm, ⟨0, _⟩ => ⟨S4x30x64x64x64, .f32⟩
  | .hbm, ⟨1, _⟩ => ⟨S3, .f32⟩
  | .hbm, ⟨2, _⟩ => ⟨S4x3x10x64x64x64, .f32⟩
  | .hbm, ⟨3, _⟩ => ⟨S4x3x64x64x64x10, .f32⟩
  | .hbm, ⟨4, _⟩ => ⟨S4x3x64x64x64x1, .f32⟩
  | .hbm, ⟨5, _⟩ => ⟨S4x3x64x64x64, .f32⟩
  | .hbm, ⟨6, _⟩ => ⟨S4x3x64x64x64, .f32⟩
  | .hbm, ⟨7, _⟩ => ⟨S4x3x64x64x64, .f32⟩
  | .hbm, ⟨8, _⟩ => ⟨S_, .f32⟩
  | .hbm, ⟨9, _⟩ => ⟨S4x3x64x64x64, .f32⟩
  | .hbm, ⟨10, _⟩ => ⟨S4x3x64x64x64, .f32⟩
  | .hbm, ⟨11, _⟩ => ⟨S_, .f32⟩
  | .hbm, ⟨12, _⟩ => ⟨S4x3x64x64x64, .f32⟩
  | .hbm, ⟨13, _⟩ => ⟨S4x3x64x64x64, .f32⟩
  | .hbm, ⟨14, _⟩ => ⟨S4x3x64x64x64x1, .f32⟩
  | .hbm, ⟨15, _⟩ => ⟨S4x3x64x64x64, .f32⟩
  | .hbm, ⟨16, _⟩ => ⟨S4x3x64x64x64, .f32⟩
  | .hbm, ⟨17, _⟩ => ⟨S4x3x64x64x64, .f32⟩
  | .hbm, ⟨18, _⟩ => ⟨S_, .f32⟩
  | .hbm, ⟨19, _⟩ => ⟨S4x3x64x64x64, .f32⟩
  | .hbm, ⟨20, _⟩ => ⟨S4x3x64x64x64, .f32⟩
  | .hbm, ⟨21, _⟩ => ⟨S_, .f32⟩
  | .hbm, ⟨22, _⟩ => ⟨S4x3x64x64x64, .f32⟩
  | .hbm, ⟨23, _⟩ => ⟨S4x3x64x64x64, .f32⟩
  | .hbm, ⟨24, _⟩ => ⟨S4x3x64x64x64x1, .f32⟩
  | .hbm, ⟨25, _⟩ => ⟨S4x3x64x64x64, .f32⟩
  | .hbm, ⟨26, _⟩ => ⟨S4x3x64x64x64, .f32⟩
  | .hbm, ⟨27, _⟩ => ⟨S4x3x64x64x64, .f32⟩
  | .hbm, ⟨28, _⟩ => ⟨S_, .f32⟩
  | .hbm, ⟨29, _⟩ => ⟨S4x3x64x64x64, .f32⟩
  | .hbm, ⟨30, _⟩ => ⟨S4x3x64x64x64, .f32⟩
  | .hbm, ⟨31, _⟩ => ⟨S_, .f32⟩
  | .hbm, ⟨32, _⟩ => ⟨S4x3x64x64x64, .f32⟩
  | .hbm, ⟨33, _⟩ => ⟨S4x3x64x64x64, .f32⟩
  | .hbm, ⟨34, _⟩ => ⟨S4x3x64x64x64x1, .f32⟩
  | .hbm, ⟨35, _⟩ => ⟨S4x3x64x64x64, .f32⟩
  | .hbm, ⟨36, _⟩ => ⟨S4x3x64x64x64x1, .f32⟩
  | .hbm, ⟨37, _⟩ => ⟨S4x3x64x64x64, .f32⟩
  | .hbm, ⟨38, _⟩ => ⟨S4x3x64x64x64, .f32⟩
  | .hbm, ⟨39, _⟩ => ⟨S4x3x64x64x64, .f32⟩
  | .hbm, ⟨40, _⟩ => ⟨S_, .f32⟩
  | .hbm, ⟨41, _⟩ => ⟨S4x3x64x64x64, .f32⟩
  | .hbm, ⟨42, _⟩ => ⟨S4x3x64x64x64, .f32⟩
  | .hbm, ⟨43, _⟩ => ⟨S_, .f32⟩
  | .hbm, ⟨44, _⟩ => ⟨S4x3x64x64x64, .f32⟩
  | .hbm, ⟨45, _⟩ => ⟨S4x3x64x64x64, .f32⟩
  | .hbm, ⟨46, _⟩ => ⟨S4x3x64x64x64x5, .f32⟩
  | .hbm, ⟨47, _⟩ => ⟨S4x3x64x64x64x5, .f32⟩
  | .hbm, ⟨48, _⟩ => ⟨S4x3x64x64x64x5, .f32⟩
  | .hbm, ⟨49, _⟩ => ⟨S_, .f32⟩
  | .hbm, ⟨50, _⟩ => ⟨S4x3x64x64x64x5, .f32⟩
  | .hbm, ⟨51, _⟩ => ⟨S4x3x64x64x64x5, .f32⟩
  | .hbm, ⟨52, _⟩ => ⟨S_, .f32⟩
  | .hbm, ⟨53, _⟩ => ⟨S4x3x64x64x64x5, .f32⟩
  | .hbm, ⟨54, _⟩ => ⟨S4x3x64x64x64x5, .f32⟩
  | .hbm, ⟨55, _⟩ => ⟨S64, .f32⟩
  | .hbm, ⟨56, _⟩ => ⟨S64, .f32⟩
  | .hbm, ⟨57, _⟩ => ⟨S64x1, .f32⟩
  | .hbm, ⟨58, _⟩ => ⟨S64, .f32⟩
  | .hbm, ⟨59, _⟩ => ⟨S64x1x1, .f32⟩
  | .hbm, ⟨60, _⟩ => ⟨S1x3x1x1x1, .f32⟩
  | .hbm, ⟨61, _⟩ => ⟨S1x1x1x1x64, .f32⟩
  | .hbm, ⟨62, _⟩ => ⟨S4x3x64x64x64, .f32⟩
  | .hbm, ⟨63, _⟩ => ⟨S4x3x64x64x64, .f32⟩
  | .hbm, ⟨64, _⟩ => ⟨S_, .f32⟩
  | .hbm, ⟨65, _⟩ => ⟨S4x3x64x64x64, .f32⟩
  | .hbm, ⟨66, _⟩ => ⟨S4x3x64x64x64, .f32⟩
  | .hbm, ⟨67, _⟩ => ⟨S1x1x1x64x1, .f32⟩
  | .hbm, ⟨68, _⟩ => ⟨S4x3x64x64x64, .f32⟩
  | .hbm, ⟨69, _⟩ => ⟨S4x3x64x64x64, .f32⟩
  | .hbm, ⟨70, _⟩ => ⟨S_, .f32⟩
  | .hbm, ⟨71, _⟩ => ⟨S4x3x64x64x64, .f32⟩
  | .hbm, ⟨72, _⟩ => ⟨S4x3x64x64x64, .f32⟩
  | .hbm, ⟨73, _⟩ => ⟨S1x1x64x1x1, .f32⟩
  | .hbm, ⟨74, _⟩ => ⟨S4x3x64x64x64, .f32⟩
  | .hbm, ⟨75, _⟩ => ⟨S4x3x64x64x64, .f32⟩
  | .hbm, ⟨76, _⟩ => ⟨S_, .f32⟩
  | .hbm, ⟨77, _⟩ => ⟨S4x3x64x64x64, .f32⟩
  | .hbm, ⟨78, _⟩ => ⟨S4x3x64x64x64, .f32⟩
  | .hbm, ⟨79, _⟩ => ⟨S4x3x64x64x64, .f32⟩
  | .hbm, ⟨80, _⟩ => ⟨S4x3x64x64x64, .f32⟩
  | .hbm, ⟨81, _⟩ => ⟨S4x3x64x64x64, .f32⟩
  | .hbm, ⟨82, _⟩ => ⟨S_, .f32⟩
  | .hbm, ⟨83, _⟩ => ⟨S4x3x64x64x64, .f32⟩
  | .hbm, ⟨84, _⟩ => ⟨S4x3x64x64x64, .f32⟩
  | .hbm, ⟨85, _⟩ => ⟨S4x3x64x64x64x1, .f32⟩
  | .hbm, ⟨86, _⟩ => ⟨S4x3x64x64x64x1, .f32⟩
  | .hbm, ⟨87, _⟩ => ⟨S4x3x64x64x64x1, .f32⟩
  | .hbm, ⟨88, _⟩ => ⟨S4x3x64x64x64x1, .f32⟩
  | .hbm, ⟨89, _⟩ => ⟨S4x3x64x64x64x4, .f32⟩
  | .hbm, ⟨90, _⟩ => ⟨S4x786432x4, .f32⟩
  | .hbm, ⟨91, _⟩ => ⟨S4x786432x1, .f32⟩
  | .hbm, ⟨92, _⟩ => ⟨S4x786432x5, .f32⟩
  | .hbm, ⟨93, _⟩ => ⟨S4x786432x10, .f32⟩
  | _, _ => ⟨S4x30x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_4 : Ref sig .tc := ⟨.hbm, 28, rfl⟩
abbrev main_v22 : Ref sig .tc := ⟨.hbm, 29, rfl⟩
abbrev main_v23 : Ref sig .tc := ⟨.hbm, 30, rfl⟩
abbrev main_cst_5 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_6 : Ref sig .tc := ⟨.hbm, 40, rfl⟩
abbrev main_v32 : Ref sig .tc := ⟨.hbm, 41, rfl⟩
abbrev main_v33 : Ref sig .tc := ⟨.hbm, 42, rfl⟩
abbrev main_cst_7 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_8 : Ref sig .tc := ⟨.hbm, 49, rfl⟩
abbrev main_v39 : Ref sig .tc := ⟨.hbm, 50, rfl⟩
abbrev main_v40 : Ref sig .tc := ⟨.hbm, 51, rfl⟩
abbrev main_cst_9 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_10 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_11 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_12 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_13 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩

abbrev nD : Nat := 1
abbrev τ : Topo := Topo.v7x

variable {F : FTy → Type} [FloatOps F]
-- ==== Proof.Stores.lean ====
/-
  WHAT ONE GRID POINT LEAVES IN ITS OUTPUT BLOCK, and the program's run. The body visits ten channels `c` and four
  batches `b`. For each pair it reads the even and the odd rows of the input plane (b, c), puts them side by side along
  the lanes, applies channel `c`'s formula, and stores the 128 rows so obtained at every fourth row of the output block,
  starting at row `b`. So the forty stores cover the block, and the block is a function of the input block alone.
  Everything here is at any float semantics `F`.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The boxes -/

/-- Every second row, from row `p`, of the input block's plane (batch `b`, channel `c`). -/
def inRect (b c p : ℕ) (hb : b < 4) (hc : c < 10) (hp : p < 2) : LoadRect S4x10x4x64x64 :=
  ⟨![b, c, 0, p, 0], S1x1x4x32x64.size, ![1, 1, 1, 2, 1], fun a => by
    match a with
    | ⟨0, _⟩ => exact Or.inr (show b + 1 * (1 - 1) < 4 by omega)
    | ⟨1, _⟩ => exact Or.inr (show c + 1 * (1 - 1) < 10 by omega)
    | ⟨2, _⟩ => exact Or.inr (show 0 + 1 * (4 - 1) < 4 by omega)
    | ⟨3, _⟩ => exact Or.inr (show p + 2 * (32 - 1) < 64 by omega)
    | ⟨4, _⟩ => exact Or.inr (show 0 + 1 * (64 - 1) < 64 by omega)⟩

/-- Every fourth row, from row `b`, of the output block's channel `c`. -/
def outRect (c b : ℕ) (hc : c < 10) (hb : b < 4) : Rect S10x1x512x128 :=
  ⟨⟨![c, 0, b, 0], S1x1x128x128.size, ![1, 1, 4, 1], fun a => by
    match a with
    | ⟨0, _⟩ => exact Or.inr (show c + 1 * (1 - 1) < 10 by omega)
    | ⟨1, _⟩ => exact Or.inr (show 0 + 1 * (1 - 1) < 1 by omega)
    | ⟨2, _⟩ => exact Or.inr (show b + 4 * (128 - 1) < 512 by omega)
    | ⟨3, _⟩ => exact Or.inr (show 0 + 1 * (128 - 1) < 128 by omega)⟩, spos_1_1_4_1⟩

/-! ## The values stored -/

/-- The even rows and the odd rows side by side: lane `l` is column `l % 64` of row parity `l / 64`. -/
def sideBySide (u v : Vec F S1x1x4x32x64 .f32) : FVec F S4x32x128 .f32 :=
  concatenate S4x32x128 2 [⟨S4x32x64, shapeCast S4x32x64 u shapeCasts_S1x1x4x32x64_S4x32x64⟩,
    ⟨S4x32x64, shapeCast S4x32x64 v shapeCasts_S1x1x4x32x64_S4x32x64⟩] concatenates_S4x32x64_S4x32x64_S4x32x128_d2

/-- The rows of the four depth slices in one run of 128 rows, as a store takes them. -/
def asRows (v : FVec F S4x32x128 .f32) : FVec F S1x1x128x128 .f32 :=
  shapeCast S1x1x128x128 (shapeCast S128x128 v shapeCasts_S4x32x128_S128x128) shapeCasts_S128x128_S1x1x128x128

/-- The grid coordinate along the column axis. -/
def gx : FVec F S4x32x128 .f32 := k0_pay3 (F := F)

/-- The grid coordinate along the row axis. -/
def gy : FVec F S4x32x128 .f32 :=
  k0_pay7 (F := F) (iota .tc S4x32x128 32 [2] iota_S4x32x128_d2_w32) k0_pay4 64#32 k0_pay5 k0_pay6

/-- The grid coordinate along the depth axis, at grid point `i`. -/
def gz (i : grid0.Coords) : FVec F S4x32x128 .f32 := k0_pay8 (F := F) (BitVec.ofNat 32 (i 0).val)

/-- A centre coordinate: (logistic of the prediction + grid coordinate) times the stride 4. -/
def centre (g v : FVec F S4x32x128 .f32) : FVec F S4x32x128 .f32 :=
  mulf (addf (logistic v) g) (broadcast S4x32x128 (Scalar.ofBits .f32 0x40800000#32 : F .f32))

/-- Channel `c`'s formula. -/
def formula (i : grid0.Coords) : ℕ → FVec F S4x32x128 .f32 → FVec F S4x32x128 .f32
  | 0, v => centre gx v
  | 1, v => centre gy v
  | 2, v => centre (gz i) v
  | 3, v => mulf (exp v) (broadcast S4x32x128 (k0_pay2 (F := F) i))
  | _, v => logistic v

/-- The rows of parity `p` of the input plane (batch `b`, channel `c`). -/
def rowsOf (x0 : Vec F S4x10x4x64x64 .f32) (b c p : ℕ) (hb : b < 4) (hc : c < 10) (hp : p < 2) :
    Vec F S1x1x4x32x64 .f32 := fun j => x0 ((inRect b c p hb hc hp).idx j)

/-- What a store puts in the rows of (channel `c`, batch `b`). -/
def payload (i : grid0.Coords) (x0 : Vec F S4x10x4x64x64 .f32) (c b : ℕ) (hc : c < 10) (hb : b < 4) :
    FVec F S1x1x128x128 .f32 :=
  asRows (formula i c (sideBySide (rowsOf x0 b c 0 hb hc (by decide)) (rowsOf x0 b c 1 hb hc (by decide))))

/-- One store: the box of (channel `c`, batch `b`) and what goes there. -/
def piece (i : grid0.Coords) (x0 : Vec F S4x10x4x64x64 .f32) (c b : ℕ) (hc : c < 10) (hb : b < 4) :
    View.Piece (Elt F) S10x1x512x128 .f32 :=
  ⟨outRect c b hc hb, payload i x0 c b hc hb⟩

/-- The forty stores, last first. -/
def pieces (i : grid0.Coords) (x0 : Vec F S4x10x4x64x64 .f32) : List (View.Piece (Elt F) S10x1x512x128 .f32) :=
    piece i x0 9 3 (by decide) (by decide) :: piece i x0 9 2 (by decide) (by decide) :: piece i x0 9 1 (by decide) (by decide) :: piece i x0 9 0 (by decide) (by decide) ::
    piece i x0 8 3 (by decide) (by decide) :: piece i x0 8 2 (by decide) (by decide) :: piece i x0 8 1 (by decide) (by decide) :: piece i x0 8 0 (by decide) (by decide) ::
    piece i x0 7 3 (by decide) (by decide) :: piece i x0 7 2 (by decide) (by decide) :: piece i x0 7 1 (by decide) (by decide) :: piece i x0 7 0 (by decide) (by decide) ::
    piece i x0 6 3 (by decide) (by decide) :: piece i x0 6 2 (by decide) (by decide) :: piece i x0 6 1 (by decide) (by decide) :: piece i x0 6 0 (by decide) (by decide) ::
    piece i x0 5 3 (by decide) (by decide) :: piece i x0 5 2 (by decide) (by decide) :: piece i x0 5 1 (by decide) (by decide) :: piece i x0 5 0 (by decide) (by decide) ::
    piece i x0 4 3 (by decide) (by decide) :: piece i x0 4 2 (by decide) (by decide) :: piece i x0 4 1 (by decide) (by decide) :: piece i x0 4 0 (by decide) (by decide) ::
    piece i x0 3 3 (by decide) (by decide) :: piece i x0 3 2 (by decide) (by decide) :: piece i x0 3 1 (by decide) (by decide) :: piece i x0 3 0 (by decide) (by decide) ::
    piece i x0 2 3 (by decide) (by decide) :: piece i x0 2 2 (by decide) (by decide) :: piece i x0 2 1 (by decide) (by decide) :: piece i x0 2 0 (by decide) (by decide) ::
    piece i x0 1 3 (by decide) (by decide) :: piece i x0 1 2 (by decide) (by decide) :: piece i x0 1 1 (by decide) (by decide) :: piece i x0 1 0 (by decide) (by decide) ::
    piece i x0 0 3 (by decide) (by decide) :: piece i x0 0 2 (by decide) (by decide) :: piece i x0 0 1 (by decide) (by decide) :: piece i x0 0 0 (by decide) (by decide) :: []

/-- What the body leaves in its output block. -/
def out0_1 (i : grid0.Coords) (x0 : Vec F S4x10x4x64x64 .f32) : Vec F S10x1x512x128 .f32 := View.canon (pieces i x0)

/-- The store of every channel and batch is among them. -/
theorem piece_mem (i : grid0.Coords) (x0 : Vec F S4x10x4x64x64 .f32) (c b : ℕ) (hc : c < 10) (hb : b < 4) :
    piece i x0 c b hc hb ∈ pieces i x0 := by
  unfold pieces
  rcases (by omega : c = 0 ∨ c = 1 ∨ c = 2 ∨ c = 3 ∨ c = 4 ∨ c = 5 ∨ c = 6 ∨ c = 7 ∨ c = 8 ∨ c = 9) with
    h | h | h | h | h | h | h | h | h | h <;>
  rcases (by omega : b = 0 ∨ b = 1 ∨ b = 2 ∨ b = 3) with h' | h' | h' | h' <;> subst h <;> subst h' <;>
    repeat (first | exact List.mem_cons_self | refine List.mem_cons_of_mem _ ?_)

/-- Every store is that of some channel and batch. -/
theorem pieces_forall (i : grid0.Coords) (x0 : Vec F S4x10x4x64x64 .f32) (P : View.Piece (Elt F) S10x1x512x128 .f32 → Prop)
    (h : ∀ c b hc hb, P (piece i x0 c b hc hb)) : ∀ p ∈ pieces i x0, P p := by
  unfold pieces
  repeat refine List.forall_mem_cons.2 ⟨h _ _ _ _, ?_⟩
  exact fun p hp => absurd hp List.not_mem_nil

/-- Row `r` of channel `c` is in the box of batch `r % 4`. -/
theorem mem_outRect (y : S10x1x512x128.Idx) (c b : ℕ) (hc : c < 10) (hb : b < 4) (h0 : (y 0).val = c)
    (h2 : (y 2).val % 4 = b) : y ∈ (outRect c b hc hb).set := by
  have l1 : (y 1).val < 1 := (y 1).isLt
  have l2 : (y 2).val < 512 := (y 2).isLt
  have l3 : (y 3).val < 128 := (y 3).isLt
  refine (LoadRect.mem_set _).2 fun a => ?_
  match a with
  | ⟨0, _⟩ => exact ⟨0, show 0 < 1 by omega, show (y 0).val = c + 1 * 0 by omega⟩
  | ⟨1, _⟩ => exact ⟨0, show 0 < 1 by omega, show (y 1).val = 0 + 1 * 0 by omega⟩
  | ⟨2, _⟩ => exact ⟨(y 2).val / 4, show (y 2).val / 4 < 128 by omega, show (y 2).val = b + 4 * ((y 2).val / 4) by omega⟩
  | ⟨3, _⟩ => exact ⟨(y 3).val, l3, show (y 3).val = 0 + 1 * (y 3).val by omega⟩

/-- The stores cover the block. -/
theorem cover0_1 (i : grid0.Coords) (x0 : Vec F S4x10x4x64x64 .f32) (y : S10x1x512x128.Idx) :
    ∃ p ∈ pieces i x0, y ∈ p.1.set :=
  ⟨_, piece_mem i x0 (y 0).val ((y 2).val % 4) (y 0).isLt (Nat.mod_lt _ (by decide)),
    mem_outRect y _ _ (y 0).isLt (Nat.mod_lt _ (by decide)) rfl rfl⟩

end Cert.KernelIdeal.Hand

end
-- ==== Proof.Body.lean ====
/-
  THE BODY'S TRIPLE: run on an input block and any output block, the body leaves the input block alone and the output
  block at `out0_1` of the input block. At any float semantics `F`.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Stores
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body -/

set_option maxHeartbeats 4000000 in
/-- The body on one block: from the input block and any output contents, it returns the input block unchanged and the
    output block at `out0_1`. -/
theorem sound_kernel (c : Dev nD) (E : Set ℕ) (i : grid0.Coords) (arg2 : Memref sig .tc .vmem S4x10x4x64x64 .f32)
    (harg2 : arg2.IsWhole) (arg3 : Memref sig .tc .vmem S10x1x512x128 .f32) (harg3 : arg3.IsWhole)
    (x0 : Vec F S4x10x4x64x64 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 i x0)) -∗ K ⟨⟩))
      ⊢ wp frame (wpE (defs₀ (F := F)) Variants.none c none) E (cc0__decode_kernel i arg2 harg2 arg3 harg3) K := by
  simp only [cc0__decode_kernel_eq_skeleton]
  unfold cc0__decode_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ (pieces i (arg2.view.read (Elt F) f0)) (cover0_1 i (arg2.view.read (Elt F) f0))

end Cert.KernelIdeal.Hand

end
-- ==== Proof.Run.lean ====
/-
  THE RUN: the pipeline's proof data, the body obligation at every grid point, the launch, and the frame. At any float
  semantics `F`, so both copies of the kernel's program take their frame from here.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Body
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` the input's buffer still at its block,
    the output's at `out0_1` of it; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (grid0.coords t) (iblk m c 0 t)
  Φ _ := Pipeline.ΦA spec0 c
  q _ := fullShare
  owed _ := 0

/-- The arrays of the proof data. -/
theorem A_eq (c : Dev nD) (w : Fin cfg0.W) : (dats m 0 c).A w = V m c (Pipeline.arrRef spec0 w) := by
  dsimp only [dats]

/-- The input's buffer after the body. -/
theorem after0_0 (c : Dev nD) (t : Fin cfg0.N) : (dats m 0 c).after 0 t = iblk m c 0 t := by dsimp only [dats]

/-- The output's buffer after the body. -/
theorem after0_1 (c : Dev nD) (t : Fin cfg0.N) : (dats m 0 c).after 1 t = out0_1 (grid0.coords t) (iblk m c 0 t) := by
  dsimp only [dats]

/-- The input's buffer before the body. -/
theorem before0_0 (c : Dev nD) (t : Fin cfg0.N) (d) : (dats m 0 c).before 0 t d = iblk m c 0 t :=
  before0_0_of m (dats m 0 c) (A_eq m c 0) (after0_0 m c) t d

/-! ## The body at a point -/

/-- What the body finds at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- What the body leaves at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body takes the one to the other: the body's triple, with the rest carried along. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row is the body on the current buffers. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
set_option maxHeartbeats 800000 in
/-- Every run of the program ends, with the arrays at what the proof data says, the later lines' buffers at what those lines
    compute from them, and every semaphore at zero. -/
theorem run_main_quiescent : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the semaphores. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: every run ends with the argument as it was and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Block.lean ====
/-
  THE OUTPUT BLOCK AT AN INDEX. Row `r`, lane `l` of channel `c` belongs to batch `r % 4`, depth slice `r / 128`, image
  row `2 * ((r / 4) % 32) + l / 64` and image column `l % 64` of the input block, and holds channel `c`'s formula of that
  one input element. At any float semantics `F`.
-/
module

public import proofs.«01_k».proof.Proof.Stores
public import Idealize.ShloMosaic.Lib.Pipeline.Value
public import Idealize.ShloMosaic.Lib.ValueIdx

@[expose] public section

noncomputable section

namespace Cert.KernelIdeal.Hand

open Cert.KernelIdeal.Gen
open Idealize.ShloMosaic Idealize.ShloMosaic.TcCoe
open Idealize.ShloMosaic.ValueIdx (ix3 ix4 ix5 eq_ix3 eq_ix4 eq_ix5)

variable {F : FTy → Type} [FloatOps F]

/-! ## The grid coordinates -/

/-- The column of lane `l`. -/
theorem gx_apply (d : Fin 4) (h : Fin 32) (l : Fin 128) :
    gx (F := F) (ix3 d h l) = FloatOps.sitofp .f32 (BitVec.ofNat 32 (l.val % 64)) := by
  unfold gx k0_pay3
  refine congrArg (FloatOps.sitofp (F := F) .f32) ?_
  have e := iota_single_apply .tc S4x32x128 32 2 iota_S4x32x128_d2_w32 (ix3 d h l)
  have e2 : ((ix3 d h l : S4x32x128.Idx) 2).val = l.val := rfl
  dsimp only [select, andi, xori, cmpi, addi, remsi, broadcastTo, broadcast]
  rw [e, e2]
  clear e e2
  revert l
  decide +kernel

/-- The row parity of lane `l`, as the program spells a division rounded down. -/
theorem parity_word (l : Fin 128) :
    Scalar.select
        (IntOp.andi
          (IntOp.cmpi CmpIPredicate.ne
            (IntOp.subi (BitVec.setWidth 32 (IntOp.cmpi CmpIPredicate.sgt (BitVec.ofNat 32 l.val) 0#32))
              (BitVec.setWidth 32 (IntOp.cmpi CmpIPredicate.slt (BitVec.ofNat 32 l.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 l.val) 64#32) 0#32))
        (IntOp.subi (IntOp.divsi ArithUnit.vector (BitVec.ofNat 32 l.val) 64#32) 1#32)
        (IntOp.divsi ArithUnit.vector (BitVec.ofNat 32 l.val) 64#32) = BitVec.ofNat 32 (l.val / 64) := by
  revert l
  decide +kernel

/-- The image row of lane `l` in row pair `h`. -/
theorem gy_apply (d : Fin 4) (h : Fin 32) (l : Fin 128) :
    gy (F := F) (ix3 d h l) = FloatOps.sitofp .f32 (BitVec.ofNat 32 (2 * h.val + l.val / 64)) := by
  unfold gy k0_pay7 k0_pay4 k0_pay5 k0_pay6
  refine congrArg (FloatOps.sitofp (F := F) .f32) ?_
  have e := iota_single_apply .tc S4x32x128 32 2 iota_S4x32x128_d2_w32 (ix3 d h l)
  have e2 : ((ix3 d h l : S4x32x128.Idx) 2).val = l.val := rfl
  have e1 := iota_single_apply .tc S4x32x128 32 1 iota_S4x32x128_d1_w32 (ix3 d h l)
  have e3 : ((ix3 d h l : S4x32x128.Idx) 1).val = h.val := rfl
  dsimp only [select, andi, xori, cmpi, addi, remsi, divsi, broadcast, extui, subi, muli]
  rw [e, e1, e2, e3, parity_word l, BitVec.ofNat_add, BitVec.ofNat_mul]
  rfl

/-- The depth of slice `d` at grid point `i`. -/
theorem gz_apply (i : grid0.Coords) (d : Fin 4) (h : Fin 32) (l : Fin 128) :
    gz (F := F) i (ix3 d h l) = FloatOps.sitofp .f32 (BitVec.ofNat 32 (d.val + (i 0).val * 4)) := by
  unfold gz k0_pay8
  refine congrArg (FloatOps.sitofp (F := F) .f32) ?_
  have e := iota_single_apply .tc S4x32x128 32 0 iota_S4x32x128_d0_w32 (ix3 d h l)
  have e2 : ((ix3 d h l : S4x32x128.Idx) 0).val = d.val := rfl
  dsimp only [addi, broadcast]
  rw [e, e2, BitVec.ofNat_add, BitVec.ofNat_mul]
  rfl

/-! ## The shapes -/

/-- The run of 128 rows at an index: row `k` is row pair `k % 32` of slice `k / 32`. -/
theorem asRows_apply (v : FVec F S4x32x128 .f32) (x : S1x1x128x128.Idx) (d : Fin 4) (h : Fin 32)
    (hd : d.val = (x 2).val / 32) (hh : h.val = (x 2).val % 32) :
    asRows v x = v (ix3 d h (x 3)) := by
  have h0 : (x 0).val < 1 := (x 0).isLt
  have h1 : (x 1).val < 1 := (x 1).isLt
  unfold asRows
  rw [shapeCast_apply (s := S128x128) (t := S1x1x128x128) _ _ x (ValueIdx.ix2 (x 2) (x 3)) (by
      rw [Shape.rowMajor_val_two, Shape.rowMajor_val_four]
      show (x 2).val * 128 + (x 3).val = (((x 0).val * 1 + (x 1).val) * 128 + (x 2).val) * 128 + (x 3).val
      omega),
    shapeCast_apply (s := S4x32x128) (t := S128x128) _ _ _ (ix3 d h (x 3)) (by
      rw [Shape.rowMajor_val_two, Shape.rowMajor_val_three]
      show (d.val * 32 + h.val) * 128 + (x 3).val = (x 2).val * 128 + (x 3).val
      omega)]

/-- The even and odd rows side by side, at an index: lane `l` of row pair `h` is column `l % 64` of row `2 h + l / 64`. -/
theorem sideBySide_apply (x0 : Vec F S4x10x4x64x64 .f32) (b c : ℕ) (hb : b < 4) (hc : c < 10) (d : Fin 4) (h : Fin 32)
    (l : Fin 128) :
    sideBySide (rowsOf x0 b c 0 hb hc (by decide)) (rowsOf x0 b c 1 hb hc (by decide)) (ix3 d h l)
      = x0 (ix5 (⟨b, hb⟩ : Fin 4) (⟨c, hc⟩ : Fin 10) d (⟨2 * h.val + l.val / 64, by omega⟩ : Fin 64)
          (⟨l.val % 64, by omega⟩ : Fin 64)) := by
  unfold sideBySide
  have drop (u : Vec F S1x1x4x32x64 .f32) (w : Fin 64) :
      shapeCast S4x32x64 u shapeCasts_S1x1x4x32x64_S4x32x64 (ix3 d h w)
        = u (ix5 (0 : Fin 1) (0 : Fin 1) d h w) :=
    shapeCast_apply (s := S1x1x4x32x64) (t := S4x32x64) u _ _ _ (by
      rw [Shape.rowMajor_val_five, Shape.rowMajor_val_three]
      show (((0 * 1 + 0) * 4 + d.val) * 32 + h.val) * 64 + w.val = (d.val * 32 + h.val) * 64 + w.val
      omega)
  by_cases hl : l.val < 64
  · rw [concatenate_pair_apply_left (t := S4x32x128) (s₁ := S4x32x64) (s₂ := S4x32x64) 2 _ _ _ (ix3 d h l) rfl
      (ix3 d h ⟨l.val, hl⟩) (fun a => by match a with | ⟨0, _⟩ => rfl | ⟨1, _⟩ => rfl | ⟨2, _⟩ => rfl), drop]
    unfold rowsOf
    refine congrArg x0 (funext fun a => Fin.ext ?_)
    match a with
    | ⟨0, _⟩ => show b + 1 * 0 = b; omega
    | ⟨1, _⟩ => show c + 1 * 0 = c; omega
    | ⟨2, _⟩ => show 0 + 1 * d.val = d.val; omega
    | ⟨3, _⟩ => show 0 + 2 * h.val = 2 * h.val + l.val / 64; omega
    | ⟨4, _⟩ => show 0 + 1 * l.val = l.val % 64; omega
  · rw [concatenate_pair_apply_right (t := S4x32x128) (s₁ := S4x32x64) (s₂ := S4x32x64) 2 _ _ _ (ix3 d h l) rfl rfl
      (ix3 d h ⟨l.val - 64, by omega⟩) (fun a ha => by
        match a, ha with
        | ⟨0, _⟩, _ => rfl
        | ⟨1, _⟩, _ => rfl
        | ⟨2, _⟩, ha => exact absurd rfl ha)
      (show l.val - 64 + 64 = l.val by omega), drop]
    unfold rowsOf
    refine congrArg x0 (funext fun a => Fin.ext ?_)
    match a with
    | ⟨0, _⟩ => show b + 1 * 0 = b; omega
    | ⟨1, _⟩ => show c + 1 * 0 = c; omega
    | ⟨2, _⟩ => show 0 + 1 * d.val = d.val; omega
    | ⟨3, _⟩ => show 1 + 2 * h.val = 2 * h.val + l.val / 64; omega
    | ⟨4, _⟩ => show 0 + 1 * (l.val - 64) = l.val % 64; omega

/-! ## The formula of one element -/

/-- The anchor size (in image units) of anchor `a`. -/
def anchor (a : ℕ) : F .f32 :=
  Scalar.select (Scalar.cmpi .eq (BitVec.ofNat 32 a) 0#32) (Scalar.ofBits .f32 0x41200000#32)
    (Scalar.select (Scalar.cmpi .eq (BitVec.ofNat 32 a) 1#32) (Scalar.ofBits .f32 0x41800000#32)
      (Scalar.ofBits .f32 0x42040000#32))

/-- A centre coordinate of one element: (logistic of the prediction + its cell's coordinate) times 4. -/
def centre₁ (n : ℕ) (v : F .f32) : F .f32 :=
  FloatOps.mulf (FloatOps.addf (FloatOps.logistic v) (FloatOps.sitofp .f32 (BitVec.ofNat 32 n)))
    (Scalar.ofBits .f32 0x40800000#32)

/-- Channel `c`'s formula of the prediction `v` of anchor `a` at depth `d`, row `h`, column `w`. -/
def cell (a d h w : ℕ) : ℕ → F .f32 → F .f32
  | 0, v => centre₁ w v
  | 1, v => centre₁ h v
  | 2, v => centre₁ d v
  | 3, v => FloatOps.mulf (FloatOps.exp v) (anchor a)
  | _, v => FloatOps.logistic v

/-- The vector formula at an index is the element formula of that element. -/
theorem formula_apply (i : grid0.Coords) (c : ℕ) (v : FVec F S4x32x128 .f32) (d : Fin 4) (h : Fin 32) (l : Fin 128) :
    formula i c v (ix3 d h l)
      = cell (i 1).val (d.val + (i 0).val * 4) (2 * h.val + l.val / 64) (l.val % 64) c (v (ix3 d h l)) := by
  match c with
  | 0 => exact congrArg (fun g => FloatOps.mulf (FloatOps.addf _ g) _) (gx_apply d h l)
  | 1 => exact congrArg (fun g => FloatOps.mulf (FloatOps.addf _ g) _) (gy_apply d h l)
  | 2 => exact congrArg (fun g => FloatOps.mulf (FloatOps.addf _ g) _) (gz_apply i d h l)
  | 3 => rfl
  | n + 4 => rfl

/-! ## The block -/

/-- The output block as one function of the input block. -/
def blockVal (i : grid0.Coords) (x0 : Vec F S4x10x4x64x64 .f32) : Vec F S10x1x512x128 .f32 := fun y =>
  have h2 : (y 2).val < 512 := (y 2).isLt
  have h3 : (y 3).val < 128 := (y 3).isLt
  cell (i 1).val ((y 2).val / 128 + (i 0).val * 4) (2 * ((y 2).val / 4 % 32) + (y 3).val / 64) ((y 3).val % 64) (y 0).val
    (x0 (ix5 (⟨(y 2).val % 4, by omega⟩ : Fin 4) (y 0) (⟨(y 2).val / 128, by omega⟩ : Fin 4)
      (⟨2 * ((y 2).val / 4 % 32) + (y 3).val / 64, by omega⟩ : Fin 64) (⟨(y 3).val % 64, by omega⟩ : Fin 64)))

/-- Each store's payload is that function on the store's box. -/
theorem piece_apply (i : grid0.Coords) (x0 : Vec F S4x10x4x64x64 .f32) (c b : ℕ) (hc : c < 10) (hb : b < 4)
    (x : (piece i x0 c b hc hb).1.shape.Idx) :
    (piece i x0 c b hc hb).2 x = blockVal i x0 ((piece i x0 c b hc hb).1.emb x) := by
  have h0 : (x 0).val < 1 := (x 0).isLt
  have h2 : (x 2).val < 128 := (x 2).isLt
  have h3 : (x 3).val < 128 := (x 3).isLt
  have e0 : (((outRect c b hc hb).emb x 0 : Fin 10) : ℕ) = c := show c + 1 * (x 0).val = c by omega
  have e2 : (((outRect c b hc hb).emb x 2 : Fin 512) : ℕ) = b + 4 * (x 2).val := rfl
  have e3 : (((outRect c b hc hb).emb x 3 : Fin 128) : ℕ) = (x 3).val := show 0 + 1 * (x 3).val = (x 3).val by omega
  show payload i x0 c b hc hb (x : S1x1x128x128.Idx) = blockVal i x0 ((outRect c b hc hb).emb x)
  unfold payload
  rw [asRows_apply _ _ (⟨(x 2).val / 32, by omega⟩ : Fin 4) (⟨(x 2).val % 32, by omega⟩ : Fin 32) rfl rfl]
  rw [show (x 3 : Fin 128) = (⟨(x 3).val, h3⟩ : Fin 128) from rfl, formula_apply, sideBySide_apply]
  unfold blockVal
  have a0 : (b + 4 * (x 2).val) / 128 = (x 2).val / 32 := by omega
  have a1 : (b + 4 * (x 2).val) / 4 % 32 = (x 2).val % 32 := by omega
  have a2 : (b + 4 * (x 2).val) % 4 = b := by omega
  have key : ∀ (c' r' l' : ℕ) (hc' : c' < 10) (hr' : r' < 512) (hl' : l' < 128), c' = c → r' = b + 4 * (x 2).val →
      l' = (x 3).val →
      cell (F := F) (i 1).val ((x 2).val / 32 + (i 0).val * 4) (2 * ((x 2).val % 32) + (x 3).val / 64) ((x 3).val % 64) c
        (x0 (ix5 (⟨b, hb⟩ : Fin 4) (⟨c, hc⟩ : Fin 10) (⟨(x 2).val / 32, by omega⟩ : Fin 4)
          (⟨2 * ((x 2).val % 32) + (x 3).val / 64, by omega⟩ : Fin 64) (⟨(x 3).val % 64, by omega⟩ : Fin 64)))
      = cell (i 1).val (r' / 128 + (i 0).val * 4) (2 * (r' / 4 % 32) + l' / 64) (l' % 64) c'
        (x0 (ix5 (⟨r' % 4, by omega⟩ : Fin 4) (⟨c', hc'⟩ : Fin 10) (⟨r' / 128, by omega⟩ : Fin 4)
          (⟨2 * (r' / 4 % 32) + l' / 64, by omega⟩ : Fin 64) (⟨l' % 64, by omega⟩ : Fin 64))) := by
    rintro c' r' l' hc' hr' hl' rfl rfl rfl
    simp only [a0, a1, a2]
  exact key _ _ _ ((outRect c b hc hb).emb x 0).isLt ((outRect c b hc hb).emb x 2).isLt ((outRect c b hc hb).emb x 3).isLt
    e0 e2 e3

/-- So the block the body leaves is that function. -/
theorem out0_1_eq (i : grid0.Coords) (x0 : Vec F S4x10x4x64x64 .f32) : out0_1 i x0 = blockVal i x0 :=
  funext fun y => View.canon_apply_of_pieces (blockVal i x0) (pieces i x0)
    (pieces_forall i x0 _ fun c b hc hb x => piece_apply i x0 c b hc hb x) y (cover0_1 i x0 y)

end Cert.KernelIdeal.Hand

end
-- ==== Proof.Array.lean ====
/-
  THE ARRAY AFTER THE REGION. Every grid point (depth group, anchor) writes back one block, the blocks tile the array, and
  each is the block of one function of the argument. At any float semantics `F`.
-/
module

public import proofs.«01_k».proof.Proof.Block
public import proofs.«01_k».proof.Proof.Run

@[expose] public section

noncomputable section

namespace Cert.KernelIdeal.Hand

open Cert.KernelIdeal.Gen
open Idealize.ShloMosaic Idealize.ShloMosaic.TcCoe Idealize.SL.Sem
open Idealize.ShloMosaic.Pipeline (Dat)
open Idealize.ShloMosaic.ValueIdx (ix3 ix4 ix5 eq_ix3 eq_ix4 eq_ix5)

variable {F : FTy → Type} [FloatOps F]
variable (m : (ℓ : Loc nD τ sig) → Buf (Elt F) ℓ) (ρ : Dev nD → PrngReg)

/-- The array as one function of the argument: row `R`, lane `l` of channel `c` and anchor `a` holds the formula of the
    prediction of batch `R % 4` at depth `R / 128`, image row `2 * ((R / 4) % 32) + l / 64`, column `l % 64`. -/
def arrayOf (X : Vec F S4x30x64x64x64 .f32) : Vec F S10x3x8192x128 .f32 := fun y =>
  have h0 : (y 0).val < 10 := (y 0).isLt
  have h1 : (y 1).val < 3 := (y 1).isLt
  have h2 : (y 2).val < 8192 := (y 2).isLt
  have h3 : (y 3).val < 128 := (y 3).isLt
  cell (y 1).val ((y 2).val / 128) (2 * ((y 2).val / 4 % 32) + (y 3).val / 64) ((y 3).val % 64) (y 0).val
    (X (ix5 (⟨(y 2).val % 4, by omega⟩ : Fin 4) (⟨(y 1).val * 10 + (y 0).val, by omega⟩ : Fin 30)
      (⟨(y 2).val / 128, by omega⟩ : Fin 64)
      (⟨2 * ((y 2).val / 4 % 32) + (y 3).val / 64, by omega⟩ : Fin 64) (⟨(y 3).val % 64, by omega⟩ : Fin 64)))

/-- The block index of the input window at a grid point. -/
theorem index_in (t : Fin cfg0.N) : win0_0.index t 0 = 0 ∧ win0_0.index t 1 = (grid0.coords t 1).val
    ∧ win0_0.index t 2 = (grid0.coords t 0).val ∧ win0_0.index t 3 = 0 ∧ win0_0.index t 4 = 0 := by
  have a0 : (grid0.coords t 0).val < 16 := (grid0.coords t 0).isLt
  have a1 : (grid0.coords t 1).val < 3 := (grid0.coords t 1).isLt
  refine ⟨rfl, ?_, ?_, rfl, rfl⟩
  · show (BitVec.ofNat 32 (grid0.coords t 1).val).toNat = _
    rw [BitVec.toNat_ofNat]; omega
  · show (BitVec.ofNat 32 (grid0.coords t 0).val).toNat = _
    rw [BitVec.toNat_ofNat]; omega

/-- The block index of the output window at a grid point. -/
theorem index_out (t : Fin cfg0.N) : win0_1.index t 0 = 0 ∧ win0_1.index t 1 = (grid0.coords t 1).val
    ∧ win0_1.index t 2 = (grid0.coords t 0).val ∧ win0_1.index t 3 = 0 := by
  have a0 : (grid0.coords t 0).val < 16 := (grid0.coords t 0).isLt
  have a1 : (grid0.coords t 1).val < 3 := (grid0.coords t 1).isLt
  refine ⟨rfl, ?_, ?_, rfl⟩
  · show (BitVec.ofNat 32 (grid0.coords t 1).val).toNat = _
    rw [BitVec.toNat_ofNat]; omega
  · show (BitVec.ofNat 32 (grid0.coords t 0).val).toNat = _
    rw [BitVec.toNat_ofNat]; omega

/-- An element of the input block, in the argument. -/
theorem iblk_apply (c : Dev nD) (t : Fin cfg0.N) (x : S4x10x4x64x64.Idx) (z : S4x30x64x64x64.Idx)
    (h0 : (z 0).val = (x 0).val) (h1 : (z 1).val = (grid0.coords t 1).val * 10 + (x 1).val)
    (h2 : (z 2).val = (grid0.coords t 0).val * 4 + (x 2).val) (h3 : (z 3).val = (x 3).val) (h4 : (z 4).val = (x 4).val) :
    (iblk m c 0 t : Vec F S4x10x4x64x64 .f32) x = (m ((c.tc : Thread nD τ).loc main_arg0) : Vec F S4x30x64x64x64 .f32) z := by
  obtain ⟨e0, e1, e2, e3, e4⟩ := index_in t
  show V m c main_arg0 ((win0_0.rect t).emb x) = _
  rw [V_main_arg0 m c]
  refine congrArg (m ((c.tc : Thread nD τ).loc main_arg0)) (funext fun a => Fin.ext ?_)
  rw [Pipeline.Window.rect_emb_val win0_0 t x a]
  match a with
  | ⟨0, _⟩ => show win0_0.index t 0 * 4 + (x 0).val = (z 0).val; rw [e0, h0]; omega
  | ⟨1, _⟩ => show win0_0.index t 1 * 10 + (x 1).val = (z 1).val; rw [e1, h1]
  | ⟨2, _⟩ => show win0_0.index t 2 * 4 + (x 2).val = (z 2).val; rw [e2, h2]
  | ⟨3, _⟩ => show win0_0.index t 3 * 64 + (x 3).val = (z 3).val; rw [e3, h3]; omega
  | ⟨4, _⟩ => show win0_0.index t 4 * 64 + (x 4).val = (z 4).val; rw [e4, h4]; omega

/-- What a grid point writes back is its block of the one function. -/
theorem flushed_eq (c : Dev nD) (t : Fin cfg0.N) :
    (dats m 0 c).flushed 1 t
      = ((cfg0.win 1).blk t).view.read (Elt F) (arrayOf (m ((c.tc : Thread nD τ).loc main_arg0))) := by
  show (cfg0.win 1).cut (grid0.coords t) ((dats m 0 c).after 1 t) = _
  rw [after0_1, out0_1_eq]
  funext y
  show blockVal (grid0.coords t) (iblk m c 0 t) (y : S10x1x512x128.Idx)
    = arrayOf (m ((c.tc : Thread nD τ).loc main_arg0)) ((win0_1.rect t).emb y)
  obtain ⟨e0, e1, e2, e3⟩ := index_out t
  have a0 : (grid0.coords t 0).val < 16 := (grid0.coords t 0).isLt
  have a1 : (grid0.coords t 1).val < 3 := (grid0.coords t 1).isLt
  have y0 : (y 0).val < 10 := (y 0).isLt
  have y1 : (y 1).val < 1 := (y 1).isLt
  have y2 : (y 2).val < 512 := (y 2).isLt
  have y3 : (y 3).val < 128 := (y 3).isLt
  have r0 : ((win0_1.rect t).emb y 0 : Nat) = (y 0).val := by
    rw [Pipeline.Window.rect_emb_val win0_1 t y 0]; show win0_1.index t 0 * 10 + (y 0).val = _; rw [e0]; omega
  have r1 : ((win0_1.rect t).emb y 1 : Nat) = (grid0.coords t 1).val := by
    rw [Pipeline.Window.rect_emb_val win0_1 t y 1]; show win0_1.index t 1 * 1 + (y 1).val = _; rw [e1]; omega
  have r2 : ((win0_1.rect t).emb y 2 : Nat) = (grid0.coords t 0).val * 512 + (y 2).val := by
    rw [Pipeline.Window.rect_emb_val win0_1 t y 2]; show win0_1.index t 2 * 512 + (y 2).val = _; rw [e2]
  have r3 : ((win0_1.rect t).emb y 3 : Nat) = (y 3).val := by
    rw [Pipeline.Window.rect_emb_val win0_1 t y 3]; show win0_1.index t 3 * 128 + (y 3).val = _; rw [e3]; omega
  have s0 : (y 2).val / 128 + (grid0.coords t 0).val * 4 = ((win0_1.rect t).emb y 2 : Nat) / 128 := by rw [r2]; omega
  have s1 : (y 2).val / 4 % 32 = ((win0_1.rect t).emb y 2 : Nat) / 4 % 32 := by rw [r2]; omega
  have s2 : (y 2).val % 4 = ((win0_1.rect t).emb y 2 : Nat) % 4 := by rw [r2]; omega
  unfold blockVal arrayOf
  dsimp only
  rw [iblk_apply m c t _ (ix5 (⟨((win0_1.rect t).emb y 2 : Nat) % 4, by omega⟩ : Fin 4)
      (⟨((win0_1.rect t).emb y 1 : Nat) * 10 + ((win0_1.rect t).emb y 0 : Nat), by omega⟩ : Fin 30)
      (⟨((win0_1.rect t).emb y 2 : Nat) / 128, by omega⟩ : Fin 64)
      (⟨2 * (((win0_1.rect t).emb y 2 : Nat) / 4 % 32) + ((win0_1.rect t).emb y 3 : Nat) / 64, by omega⟩ : Fin 64)
      (⟨((win0_1.rect t).emb y 3 : Nat) % 64, by omega⟩ : Fin 64))
    (show ((win0_1.rect t).emb y 2 : Nat) % 4 = (y 2).val % 4 by omega)
    (show ((win0_1.rect t).emb y 1 : Nat) * 10 + ((win0_1.rect t).emb y 0 : Nat)
      = (grid0.coords t 1).val * 10 + (y 0).val by omega)
    (show ((win0_1.rect t).emb y 2 : Nat) / 128 = (grid0.coords t 0).val * 4 + (y 2).val / 128 by omega)
    (show 2 * (((win0_1.rect t).emb y 2 : Nat) / 4 % 32) + ((win0_1.rect t).emb y 3 : Nat) / 64
      = 2 * ((y 2).val / 4 % 32) + (y 3).val / 64 by rw [r3]; omega)
    (show ((win0_1.rect t).emb y 3 : Nat) % 64 = (y 3).val % 64 by rw [r3])]
  rw [s0, s1]
  have f1 : (grid0.coords t 1).val = ((win0_1.rect t).emb y 1 : Nat) := r1.symm
  have f3 : (y 3).val = ((win0_1.rect t).emb y 3 : Nat) := r3.symm
  have f0 : (y 0).val = ((win0_1.rect t).emb y 0 : Nat) := r0.symm
  rw [f1, f3, f0]

/-- Every depth group and anchor is some grid point's. -/
theorem point_of (d : Fin 16) (a : Fin 3) :
    ∃ t : Fin cfg0.N, (grid0.coords t 0).val = d.val ∧ (grid0.coords t 1).val = a.val := by
  revert d a
  decide +kernel

/-- The blocks cover the array. -/
theorem cover (i : S10x3x8192x128.Idx) :
    ∃ t : Fin cfg0.N, (cfg0.win 1).flush t = true ∧ i ∈ ((cfg0.win 1).blk t).view.set := by
  have h0 : (i 0 : Nat) < 10 := (i 0).isLt
  have h1 : (i 1 : Nat) < 3 := (i 1).isLt
  have h2 : (i 2 : Nat) < 8192 := (i 2).isLt
  have h3 : (i 3 : Nat) < 128 := (i 3).isLt
  obtain ⟨t, t0, t1⟩ := point_of ⟨(i 2 : Nat) / 512, by omega⟩ ⟨(i 1 : Nat), h1⟩
  refine ⟨t, flush0_1 t, ?_⟩
  obtain ⟨e0, e1, e2, e3⟩ := index_out t
  show i ∈ ((View.whole main_v0).slice (win0_1.rect t)).set
  rw [View.set_slice_whole, Rect.mem_set_unit]
  intro a
  match a with
  | ⟨0, _⟩ => show win0_1.index t 0 * 10 ≤ (i 0 : Nat) ∧ (i 0 : Nat) < win0_1.index t 0 * 10 + 10
              rw [e0]; omega
  | ⟨1, _⟩ => show win0_1.index t 1 * 1 ≤ (i 1 : Nat) ∧ (i 1 : Nat) < win0_1.index t 1 * 1 + 1
              rw [e1, t1]; dsimp only; omega
  | ⟨2, _⟩ => show win0_1.index t 2 * 512 ≤ (i 2 : Nat) ∧ (i 2 : Nat) < win0_1.index t 2 * 512 + 512
              rw [e2, t0]; dsimp only; omega
  | ⟨3, _⟩ => show win0_1.index t 3 * 128 ≤ (i 3 : Nat) ∧ (i 3 : Nat) < win0_1.index t 3 * 128 + 128
              rw [e3]; omega

/-- So the array ends at that function of the argument. -/
theorem final_array (c : Dev nD) :
    (dats m 0 c).arrAt 1 cfg0.N = arrayOf (m ((c.tc : Thread nD τ).loc main_arg0)) :=
  (dats m 0 c).arrAt_eq_of_cover 1 (arrayOf (m ((c.tc : Thread nD τ).loc main_arg0))) (fun t _ => flushed_eq m c t) cover

end Cert.KernelIdeal.Hand

end
-- ==== Proof.Result.lean ====
/-
  THE KERNEL PROGRAM'S RESULT. After the region three lines relay the array: the rows are split into row groups and
  batches, the axes are put in the order batch, anchor, row group, lane, channel, and the middle three are joined. So the
  result at (batch, position, channel) is one formula of one prediction, the position spelling anchor, depth, image row and
  column. At any float semantics `F`.
-/
module

public import proofs.«01_k».proof.Proof.Array

@[expose] public section

set_option maxRecDepth 16384

noncomputable section

namespace Cert.KernelIdeal.Hand

open Cert.KernelIdeal.Gen
open Idealize.ShloMosaic Idealize.ShloMosaic.TcCoe Idealize.SL.Sem
open Idealize.ShloMosaic.Pipeline (Dat)
open Idealize.ShloMosaic.ValueIdx (ix3 ix4 ix5 eq_ix3 eq_ix4 eq_ix5)

variable {F : FTy → Type} [FloatOps F]
variable (m : (ℓ : Loc nD τ sig) → Buf (Elt F) ℓ) (ρ : Dev nD → PrngReg)

/-- What the three lines after the region make of the array. -/
def relaid (A : Vec F S10x3x8192x128 .f32) : Vec F S4x786432x10 .f32 :=
  shapeCast S4x786432x10
    (transpose S4x3x2048x128x10 [3, 1, 2, 4, 0]
      (shapeCast S10x3x2048x4x128 A shapeCasts_S10x3x8192x128_S10x3x2048x4x128)
      transposes_S10x3x2048x4x128_S4x3x2048x128x10_3_1_2_4_0)
    shapeCasts_S4x3x2048x128x10_S4x786432x10

/-- The result as one function of the argument: position `n` is anchor `n / 262144`, depth `n / 4096 % 64`, image row
    `n / 64 % 64` and column `n % 64`. -/
def resultOf (X : Vec F S4x30x64x64x64 .f32) : Vec F S4x786432x10 .f32 := fun j =>
  have h0 : (j 0).val < 4 := (j 0).isLt
  have h1 : (j 1).val < 786432 := (j 1).isLt
  have h2 : (j 2).val < 10 := (j 2).isLt
  cell ((j 1).val / 262144) ((j 1).val / 4096 % 64) ((j 1).val / 64 % 64) ((j 1).val % 64) (j 2).val
    (X (ix5 (⟨(j 0).val, h0⟩ : Fin 4) (⟨(j 1).val / 262144 * 10 + (j 2).val, by omega⟩ : Fin 30)
      (⟨(j 1).val / 4096 % 64, by omega⟩ : Fin 64) (⟨(j 1).val / 64 % 64, by omega⟩ : Fin 64)
      (⟨(j 1).val % 64, by omega⟩ : Fin 64)))

/-- An element of the relaid array. -/
theorem relaid_apply (A : Vec F S10x3x8192x128 .f32) (j : S4x786432x10.Idx) (i : S10x3x8192x128.Idx)
    (i0 : (i 0).val = (j 2).val) (i1 : (i 1).val = (j 1).val / 262144)
    (i2 : (i 2).val = 4 * ((j 1).val / 128 % 2048) + (j 0).val) (i3 : (i 3).val = (j 1).val % 128) :
    relaid A j = A i := by
  have h0 : (j 0).val < 4 := (j 0).isLt
  have h1 : (j 1).val < 786432 := (j 1).isLt
  have h2 : (j 2).val < 10 := (j 2).isLt
  unfold relaid
  rw [shapeCast_apply _ _ j (ix5 (⟨(j 0).val, h0⟩ : Fin 4) (⟨(j 1).val / 262144, by omega⟩ : Fin 3)
      (⟨(j 1).val / 128 % 2048, by omega⟩ : Fin 2048) (⟨(j 1).val % 128, by omega⟩ : Fin 128) (⟨(j 2).val, h2⟩ : Fin 10))
    (by
      rw [Shape.rowMajor_val_five, Shape.rowMajor_val_three]
      show ((((j 0).val * 3 + (j 1).val / 262144) * 2048 + (j 1).val / 128 % 2048) * 128 + (j 1).val % 128) * 10 + (j 2).val
        = ((j 0).val * 786432 + (j 1).val) * 10 + (j 2).val
      omega)]
  rw [transpose_apply [3, 1, 2, 4, 0] _ _ _ (ix5 (⟨(j 2).val, h2⟩ : Fin 10) (⟨(j 1).val / 262144, by omega⟩ : Fin 3)
      (⟨(j 1).val / 128 % 2048, by omega⟩ : Fin 2048) (⟨(j 0).val, h0⟩ : Fin 4) (⟨(j 1).val % 128, by omega⟩ : Fin 128))
    (fun b => by
      match b with
      | ⟨0, _⟩ => rfl
      | ⟨1, _⟩ => rfl
      | ⟨2, _⟩ => rfl
      | ⟨3, _⟩ => rfl
      | ⟨4, _⟩ => rfl)]
  rw [shapeCast_apply _ _ _ i (by
      rw [Shape.rowMajor_val_five, Shape.rowMajor_val_four]
      show (((i 0).val * 3 + (i 1).val) * 8192 + (i 2).val) * 128 + (i 3).val
        = ((((j 2).val * 3 + (j 1).val / 262144) * 2048 + (j 1).val / 128 % 2048) * 4 + (j 0).val) * 128 + (j 1).val % 128
      rw [i0, i1, i2, i3]
      omega)]

/-- The three lines take the array's function to the result's. -/
theorem relaid_arrayOf (X : Vec F S4x30x64x64x64 .f32) : relaid (arrayOf X) = resultOf X := by
  funext j
  have h0 : (j 0).val < 4 := (j 0).isLt
  have h1 : (j 1).val < 786432 := (j 1).isLt
  have h2 : (j 2).val < 10 := (j 2).isLt
  rw [relaid_apply (arrayOf X) j (ix4 (⟨(j 2).val, h2⟩ : Fin 10) (⟨(j 1).val / 262144, by omega⟩ : Fin 3)
    (⟨4 * ((j 1).val / 128 % 2048) + (j 0).val, by omega⟩ : Fin 8192) (⟨(j 1).val % 128, by omega⟩ : Fin 128)) rfl rfl rfl rfl]
  have e0 : (4 * ((j 1).val / 128 % 2048) + (j 0).val) % 4 = (j 0).val := by omega
  have e1 : (4 * ((j 1).val / 128 % 2048) + (j 0).val) / 128 = (j 1).val / 4096 % 64 := by omega
  have e2 : 2 * ((4 * ((j 1).val / 128 % 2048) + (j 0).val) / 4 % 32) + (j 1).val % 128 / 64 = (j 1).val / 64 % 64 := by omega
  have e3 : (j 1).val % 128 % 64 = (j 1).val % 64 := by omega
  show cell ((j 1).val / 262144) ((4 * ((j 1).val / 128 % 2048) + (j 0).val) / 128)
      (2 * ((4 * ((j 1).val / 128 % 2048) + (j 0).val) / 4 % 32) + (j 1).val % 128 / 64) ((j 1).val % 128 % 64) (j 2).val
      (X (ix5 (⟨(4 * ((j 1).val / 128 % 2048) + (j 0).val) % 4, by omega⟩ : Fin 4)
        (⟨(j 1).val / 262144 * 10 + (j 2).val, by omega⟩ : Fin 30)
        (⟨(4 * ((j 1).val / 128 % 2048) + (j 0).val) / 128, by omega⟩ : Fin 64)
        (⟨2 * ((4 * ((j 1).val / 128 % 2048) + (j 0).val) / 4 % 32) + (j 1).val % 128 / 64, by omega⟩ : Fin 64)
        (⟨(j 1).val % 128 % 64, by omega⟩ : Fin 64))) = resultOf X j
  simp only [e0, e1, e2, e3]
  rfl

/-- The result's buffer after the three lines. -/
theorem tail_result (c : Dev nD) :
    Pipeline.afterTail₀ cfgs (dats m) 0 (V0 m) [hostOps1] c main_v3 = resultOf (m ((c.tc : Thread nD τ).loc main_arg0)) := by
  rw [← relaid_arrayOf, ← final_array m c]
  have hw := Pipeline.withArrays_arr (τ := τ) spec0 (by decide) c (V0 m c) (fun w => (dats m 0 c).arrAt w cfg0.N) 1
  rw [← hw]
  unfold Pipeline.afterTail₀
  show StableHlo.after hostOps1 _ _ = _
  after_results_simp
  rfl

/-- Every run ends with the result at that function of the argument, and the argument as it was. -/
theorem run_value : θ_run defs (onTc (τ := τ) (main (F := F))) ⟨m, fun _ => 0, ρ⟩ (fun r => ∀ c : Dev nD,
    r.2.mem ((c.tc : Thread nD τ).loc main_v3) = resultOf (m ((c.tc : Thread nD τ).loc main_arg0))
    ∧ r.2.mem ((c.tc : Thread nD τ).loc main_arg0) = m ((c.tc : Thread nD τ).loc main_arg0)) :=
  (θ_run defs _ _).mono (fun _ h c => ⟨((h c).2 main_v3 (by decide)).trans (tail_result m c),
    ((h c).1 0).trans (((dats m 0 c).arrAt_in 0 rfl _).trans ((A_eq m c 0).trans (V_main_arg0 m c)))⟩) (run_main m ρ)

end Cert.KernelIdeal.Hand

end
-- ==== Proof.Ref.lean ====
/-
  WHAT THE REFERENCE COMPUTES. The reference moves the channels last, slices each channel's plane out of the predictions,
  computes the plane by plain operations, and joins the planes along the channels. Its result's term is named here in parts,
  and each part read at an index: the result at (batch, position, channel) is one formula of one prediction. At any float
  semantics `F`.
-/
module

public import proofs.«01_k».proof.Proof.Gen.ReferenceIdeal.Run
public import Idealize.ShloMosaic.Lib.Pipeline.Value
public import Idealize.ShloMosaic.Lib.ValueIdx
public import Idealize.ShloMosaic.Lib.ValueIdxRank6

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem
open Idealize.ShloMosaic.ValueIdx (ix1 ix2 ix3 ix5 ix6)

variable {F : FTy → Type} [FloatOps F]

/-! ## The parts of the term -/

/-- The predictions with the channels last: batch, anchor, depth, row, column, channel. -/
def moved (X : FVec F S4x30x64x64x64 .f32) : FVec F S4x3x64x64x64x10 .f32 :=
  transpose S4x3x64x64x64x10 [0, 1, 3, 4, 5, 2] (shapeCast _ X shapeCasts_S4x30x64x64x64_S4x3x10x64x64x64)
    transposes_S4x3x10x64x64x64_S4x3x64x64x64x10_0_1_3_4_5_2

/-- One channel's plane of the predictions. -/
def plane (X : FVec F S4x30x64x64x64 .f32) (k : ℕ)
    (hs : S4x3x64x64x64x10.Slices ![0, 0, 0, 0, 0, k] S4x3x64x64x64x1) : FVec F S4x3x64x64x64 .f32 :=
  shapeCast _ (extractStridedSlice S4x3x64x64x64x1 ![0, 0, 0, 0, 0, k] (moved X) hs)
    shapeCasts_S4x3x64x64x64x1_S4x3x64x64x64

/-- The written-out logistic of a plane: 1 / (1 + exp (−v)). -/
def sigmoid (v : FVec F S4x3x64x64x64 .f32) : FVec F S4x3x64x64x64 .f32 :=
  Host.divf (broadcastInDim S4x3x64x64x64 ![] bcast_S_S4x3x64x64x64 (constant S_ .f32 0x3F800000#32))
    (addf (broadcastInDim S4x3x64x64x64 ![] bcast_S_S4x3x64x64x64 (constant S_ .f32 0x3F800000#32))
      (Host.exp (Host.negf v)))

/-- The stride 4 at every place. -/
def four : FVec F S4x3x64x64x64 .f32 :=
  broadcastInDim S4x3x64x64x64 ![] bcast_S_S4x3x64x64x64 (constant S_ .f32 0x40800000#32)

/-- The column of each cell. -/
def columns : FVec F S4x3x64x64x64 .f32 :=
  broadcastInDim S4x3x64x64x64 ![0, 1, 2, 3, 4] bcast_S1x1x1x1x64_S4x3x64x64x64_0_1_2_3_4
    (broadcastInDim S1x1x1x1x64 ![4] bcast_S64_S1x1x1x1x64_4 (sitofp .f32 (iotaInDim S64 32 0)))

/-- The image row of each cell. -/
def imageRows : FVec F S4x3x64x64x64 .f32 :=
  broadcastInDim S4x3x64x64x64 ![0, 1, 2, 3, 4] bcast_S1x1x1x64x1_S4x3x64x64x64_0_1_2_3_4
    (broadcastInDim S1x1x1x64x1 ![3, 4] bcast_S64x1_S1x1x1x64x1_3_4
      (broadcastInDim S64x1 ![0] bcast_S64_S64x1_0 (sitofp .f32 (iotaInDim S64 32 0))))

/-- The depth of each cell. -/
def depths : FVec F S4x3x64x64x64 .f32 :=
  broadcastInDim S4x3x64x64x64 ![0, 1, 2, 3, 4] bcast_S1x1x64x1x1_S4x3x64x64x64_0_1_2_3_4
    (broadcastInDim S1x1x64x1x1 ![2, 3, 4] bcast_S64x1x1_S1x1x64x1x1_2_3_4
      (broadcastInDim S64x1x1 ![0] bcast_S64_S64x1x1_0 (sitofp .f32 (iotaInDim S64 32 0))))

/-- The size of each cell's anchor, in units of the stride. -/
def anchors : FVec F S4x3x64x64x64 .f32 :=
  broadcastInDim S4x3x64x64x64 ![0, 1, 2, 3, 4] bcast_S1x3x1x1x1_S4x3x64x64x64_0_1_2_3_4
    (broadcastInDim S1x3x1x1x1 ![1] bcast_S3_S1x3x1x1x1_1 (fun i => FloatOps.ofBits .f32 (lit0 (S3.rowMajor i))))

/-- A plane as a one-channel block. -/
def oneChannel (v : FVec F S4x3x64x64x64 .f32) : FVec F S4x3x64x64x64x1 .f32 :=
  broadcastInDim S4x3x64x64x64x1 ![0, 1, 2, 3, 4] bcast_S4x3x64x64x64_S4x3x64x64x64x1_0_1_2_3_4 v

/-- Four planes side by side along the channels. -/
def joined (v0 v1 v2 v3 : FVec F S4x3x64x64x64 .f32) : FVec F S4x3x64x64x64x4 .f32 :=
  concatenate S4x3x64x64x64x4 5
    [⟨S4x3x64x64x64x1, oneChannel v0⟩, ⟨S4x3x64x64x64x1, oneChannel v1⟩, ⟨S4x3x64x64x64x1, oneChannel v2⟩,
     ⟨S4x3x64x64x64x1, oneChannel v3⟩]
    concatenates_S4x3x64x64x64x1_S4x3x64x64x64x1_S4x3x64x64x64x1_S4x3x64x64x64x1_S4x3x64x64x64x4_d5

/-- The four box channels: the centre's column, row and depth, and the diameter. -/
def boxes (X : FVec F S4x30x64x64x64 .f32) : FVec F S4x3x64x64x64x4 .f32 :=
  joined
    (mulf (addf (sigmoid (plane X 0 slices_S4x3x64x64x64x10_S4x3x64x64x64x1_0_0_0_0_0_0)) columns) four)
    (mulf (addf (sigmoid (plane X 1 slices_S4x3x64x64x64x10_S4x3x64x64x64x1_0_0_0_0_0_1)) imageRows) four)
    (mulf (addf (sigmoid (plane X 2 slices_S4x3x64x64x64x10_S4x3x64x64x64x1_0_0_0_0_0_2)) depths) four)
    (mulf (mulf (Host.exp (plane X 3 slices_S4x3x64x64x64x10_S4x3x64x64x64x1_0_0_0_0_0_3)) anchors) four)

/-- The five class channels. -/
def classes (X : FVec F S4x30x64x64x64 .f32) : FVec F S4x3x64x64x64x5 .f32 :=
  Host.divf (broadcastInDim S4x3x64x64x64x5 ![] bcast_S_S4x3x64x64x64x5 (constant S_ .f32 0x3F800000#32))
    (addf (broadcastInDim S4x3x64x64x64x5 ![] bcast_S_S4x3x64x64x64x5 (constant S_ .f32 0x3F800000#32))
      (Host.exp (Host.negf (extractStridedSlice S4x3x64x64x64x5 ![0, 0, 0, 0, 0, 5] (moved X)
        slices_S4x3x64x64x64x10_S4x3x64x64x64x5_0_0_0_0_0_5))))

/-- The whole result: boxes, confidence, classes. -/
def result (X : FVec F S4x30x64x64x64 .f32) : FVec F S4x786432x10 .f32 :=
  concatenate S4x786432x10 2
    [⟨S4x786432x4, shapeCast _ (boxes X) shapeCasts_S4x3x64x64x64x4_S4x786432x4⟩,
     ⟨S4x786432x1, shapeCast _ (sigmoid (plane X 4 slices_S4x3x64x64x64x10_S4x3x64x64x64x1_0_0_0_0_0_4))
        shapeCasts_S4x3x64x64x64_S4x786432x1⟩,
     ⟨S4x786432x5, shapeCast _ (classes X) shapeCasts_S4x3x64x64x64x5_S4x786432x5⟩]
    concatenates_S4x786432x4_S4x786432x1_S4x786432x5_S4x786432x10_d2

/-- The run's result is that term of the argument. -/
theorem res_eq (m : (ℓ : Loc nD τ sig) → Buf (Elt F) ℓ) (c : Dev nD) :
    res_out0 m c = result (m ((c.tc : Thread nD τ).loc main_arg0)) := rfl

/-! ## The parts at an index -/

/-- The written-out logistic of one prediction. -/
def sigmoid₁ (v : F .f32) : F .f32 :=
  FloatOps.hostDivf (FloatOps.ofBits .f32 0x3F800000#32)
    (FloatOps.addf (FloatOps.ofBits .f32 0x3F800000#32) (FloatOps.hostUnary .exp (FloatOps.hostNegf v)))

/-- A centre coordinate of one prediction in the cell with coordinate `n`. -/
def centre₁ (n : ℕ) (v : F .f32) : F .f32 :=
  FloatOps.mulf (FloatOps.addf (sigmoid₁ v) (FloatOps.sitofp .f32 (BitVec.ofNat 32 n))) (FloatOps.ofBits .f32 0x40800000#32)

/-- Channel `k`'s formula of the prediction `v` of anchor `a` at depth `d`, row `h`, column `w`. -/
def refCell (a : Fin 3) (d h w : ℕ) : ℕ → F .f32 → F .f32
  | 0, v => centre₁ w v
  | 1, v => centre₁ h v
  | 2, v => centre₁ d v
  | 3, v => FloatOps.mulf (FloatOps.mulf (FloatOps.hostUnary .exp v) (FloatOps.ofBits .f32 (lit0 a)))
      (FloatOps.ofBits .f32 0x40800000#32)
  | _, v => sigmoid₁ v

section
variable (X : FVec F S4x30x64x64x64 .f32) (b : Fin 4) (a : Fin 3) (d h w : Fin 64)

/-- The prediction of batch `b`, anchor `a`, channel `k` at a place. -/
def pred (k : Fin 10) : F .f32 := X (ix5 b (⟨a.val * 10 + k.val, by omega⟩ : Fin 30) d h w)

/-- The moved predictions at an index. -/
theorem moved_apply (k : Fin 10) : moved X (ix6 b a d h w k) = pred X b a d h w k := by
  unfold moved pred
  rw [transpose_apply [0, 1, 3, 4, 5, 2] _ _ _ (ix6 b a k d h w) (fun x => by
      match x with
      | ⟨0, _⟩ => rfl
      | ⟨1, _⟩ => rfl
      | ⟨2, _⟩ => rfl
      | ⟨3, _⟩ => rfl
      | ⟨4, _⟩ => rfl
      | ⟨5, _⟩ => rfl)]
  exact shapeCast_apply _ _ _ _ (by
    rw [Shape.rowMajor_val_five, Shape.rowMajor_val_six]
    show (((b.val * 30 + (a.val * 10 + k.val)) * 64 + d.val) * 64 + h.val) * 64 + w.val
      = ((((b.val * 3 + a.val) * 10 + k.val) * 64 + d.val) * 64 + h.val) * 64 + w.val
    omega)

/-- A channel's plane at an index. -/
theorem plane_apply (k : ℕ) (hk : k < 10) (hs : S4x3x64x64x64x10.Slices ![0, 0, 0, 0, 0, k] S4x3x64x64x64x1) :
    plane X k hs (ix5 b a d h w) = pred X b a d h w ⟨k, hk⟩ := by
  unfold plane
  rw [shapeCast_apply _ _ _ (ix6 b a d h w (0 : Fin 1)) (by
    rw [Shape.rowMajor_val_five, Shape.rowMajor_val_six]
    show ((((b.val * 3 + a.val) * 64 + d.val) * 64 + h.val) * 64 + w.val) * 1 + 0
      = (((b.val * 3 + a.val) * 64 + d.val) * 64 + h.val) * 64 + w.val
    omega)]
  rw [extractStridedSlice_apply _ _ _ _ (ix6 b a d h w (⟨k, hk⟩ : Fin 10)) (fun x => by
    match x with
    | ⟨0, _⟩ => show b.val = 0 + b.val; omega
    | ⟨1, _⟩ => show a.val = 0 + a.val; omega
    | ⟨2, _⟩ => show d.val = 0 + d.val; omega
    | ⟨3, _⟩ => show h.val = 0 + h.val; omega
    | ⟨4, _⟩ => show w.val = 0 + w.val; omega
    | ⟨5, _⟩ => show k = k + 0; omega)]
  exact moved_apply X b a d h w ⟨k, hk⟩

/-- A cell's column is its last coordinate. -/
theorem columns_apply : columns (F := F) (ix5 b a d h w) = FloatOps.sitofp .f32 (BitVec.ofNat 32 w.val) := by
  unfold columns
  rw [broadcastInDim_apply _ _ _ _ (ix5 (0 : Fin 1) (0 : Fin 1) (0 : Fin 1) (0 : Fin 1) w) (fun x => by
      match x with
      | ⟨0, _⟩ => rfl
      | ⟨1, _⟩ => rfl
      | ⟨2, _⟩ => rfl
      | ⟨3, _⟩ => rfl
      | ⟨4, _⟩ => rfl),
    broadcastInDim_apply _ _ _ _ (ix1 w) (fun x => by
      match x with
      | ⟨0, _⟩ => rfl)]
  rfl

/-- A cell's image row is its fourth coordinate. -/
theorem imageRows_apply : imageRows (F := F) (ix5 b a d h w) = FloatOps.sitofp .f32 (BitVec.ofNat 32 h.val) := by
  unfold imageRows
  rw [broadcastInDim_apply _ _ _ _ (ix5 (0 : Fin 1) (0 : Fin 1) (0 : Fin 1) h (0 : Fin 1)) (fun x => by
      match x with
      | ⟨0, _⟩ => rfl
      | ⟨1, _⟩ => rfl
      | ⟨2, _⟩ => rfl
      | ⟨3, _⟩ => rfl
      | ⟨4, _⟩ => rfl),
    broadcastInDim_apply _ _ _ _ (ix2 h (0 : Fin 1)) (fun x => by
      match x with
      | ⟨0, _⟩ => rfl
      | ⟨1, _⟩ => rfl),
    broadcastInDim_apply _ _ _ _ (ix1 h) (fun x => by
      match x with
      | ⟨0, _⟩ => rfl)]
  rfl

/-- A cell's depth is its third coordinate. -/
theorem depths_apply : depths (F := F) (ix5 b a d h w) = FloatOps.sitofp .f32 (BitVec.ofNat 32 d.val) := by
  unfold depths
  rw [broadcastInDim_apply _ _ _ _ (ix5 (0 : Fin 1) (0 : Fin 1) d (0 : Fin 1) (0 : Fin 1)) (fun x => by
      match x with
      | ⟨0, _⟩ => rfl
      | ⟨1, _⟩ => rfl
      | ⟨2, _⟩ => rfl
      | ⟨3, _⟩ => rfl
      | ⟨4, _⟩ => rfl),
    broadcastInDim_apply _ _ _ _ (ix3 d (0 : Fin 1) (0 : Fin 1)) (fun x => by
      match x with
      | ⟨0, _⟩ => rfl
      | ⟨1, _⟩ => rfl
      | ⟨2, _⟩ => rfl),
    broadcastInDim_apply _ _ _ _ (ix1 d) (fun x => by
      match x with
      | ⟨0, _⟩ => rfl)]
  rfl

/-- A cell's anchor size is that of its second coordinate. -/
theorem anchors_apply : anchors (F := F) (ix5 b a d h w) = FloatOps.ofBits .f32 (lit0 a) := by
  unfold anchors
  rw [broadcastInDim_apply _ _ _ _ (ix5 (0 : Fin 1) a (0 : Fin 1) (0 : Fin 1) (0 : Fin 1)) (fun x => by
      match x with
      | ⟨0, _⟩ => rfl
      | ⟨1, _⟩ => rfl
      | ⟨2, _⟩ => rfl
      | ⟨3, _⟩ => rfl
      | ⟨4, _⟩ => rfl),
    broadcastInDim_apply _ _ _ _ (ix1 a) (fun x => by
      match x with
      | ⟨0, _⟩ => rfl)]
  exact congrArg (fun x => FloatOps.ofBits .f32 (lit0 x)) (Fin.ext (Shape.rowMajor_val_one _))

/-- A one-channel block at an index. -/
theorem oneChannel_apply (v : FVec F S4x3x64x64x64 .f32) :
    oneChannel v (ix6 b a d h w (0 : Fin 1)) = v (ix5 b a d h w) := by
  unfold oneChannel
  exact broadcastInDim_apply _ _ _ _ _ (fun x => by
      match x with
      | ⟨0, _⟩ => rfl
      | ⟨1, _⟩ => rfl
      | ⟨2, _⟩ => rfl
      | ⟨3, _⟩ => rfl
      | ⟨4, _⟩ => rfl)

/-- The written-out logistic at an index. -/
theorem sigmoid_apply (v : FVec F S4x3x64x64x64 .f32) (y : S4x3x64x64x64.Idx) : sigmoid v y = sigmoid₁ (v y) := rfl

/-- The joined planes at an index: the channel's own plane. -/
theorem joined_apply (v : Fin 4 → FVec F S4x3x64x64x64 .f32) (k : Fin 4) :
    joined (v 0) (v 1) (v 2) (v 3) (ix6 b a d h w k) = v k (ix5 b a d h w) := by
  rw [← oneChannel_apply b a d h w (v k)]
  have off : ∀ y : Fin 6, y ≠ 5 → (ix6 b a d h w (0 : Fin 1) y).val = (ix6 b a d h w k y).val := fun y hy => by
    match y with
    | ⟨0, _⟩ => rfl
    | ⟨1, _⟩ => rfl
    | ⟨2, _⟩ => rfl
    | ⟨3, _⟩ => rfl
    | ⟨4, _⟩ => rfl
    | ⟨5, _⟩ => exact absurd rfl hy
  unfold joined
  refine concatenate_apply_piece 5
    [⟨S4x3x64x64x64x1, oneChannel (v 0)⟩, ⟨S4x3x64x64x64x1, oneChannel (v 1)⟩, ⟨S4x3x64x64x64x1, oneChannel (v 2)⟩,
     ⟨S4x3x64x64x64x1, oneChannel (v 3)⟩] _ (ix6 b a d h w k) k.val k.isLt S4x3x64x64x64x1 (oneChannel (v k)) ?_ rfl k.val ?_
    (ix6 b a d h w (0 : Fin 1)) off (by show k.val + 0 = k.val; omega)
  · match k with
    | ⟨0, _⟩ => rfl
    | ⟨1, _⟩ => rfl
    | ⟨2, _⟩ => rfl
    | ⟨3, _⟩ => rfl
  · match k with
    | ⟨0, _⟩ => rfl
    | ⟨1, _⟩ => rfl
    | ⟨2, _⟩ => rfl
    | ⟨3, _⟩ => rfl

/-- The box channels at an index. -/
theorem boxes_apply (k : Fin 4) :
    boxes X (ix6 b a d h w k) = refCell a d.val h.val w.val k.val (pred X b a d h w ⟨k.val, by omega⟩) := by
  unfold boxes
  refine (joined_apply b a d h w
    ![mulf (addf (sigmoid (plane X 0 slices_S4x3x64x64x64x10_S4x3x64x64x64x1_0_0_0_0_0_0)) columns) four,
      mulf (addf (sigmoid (plane X 1 slices_S4x3x64x64x64x10_S4x3x64x64x64x1_0_0_0_0_0_1)) imageRows) four,
      mulf (addf (sigmoid (plane X 2 slices_S4x3x64x64x64x10_S4x3x64x64x64x1_0_0_0_0_0_2)) depths) four,
      mulf (mulf (Host.exp (plane X 3 slices_S4x3x64x64x64x10_S4x3x64x64x64x1_0_0_0_0_0_3)) anchors) four] k).trans ?_
  match k with
  | ⟨0, _⟩ =>
    show FloatOps.mulf (FloatOps.addf (sigmoid₁ (plane X 0 _ (ix5 b a d h w))) (columns (ix5 b a d h w))) _ = _
    rw [columns_apply, plane_apply X b a d h w 0 (by decide)]
    rfl
  | ⟨1, _⟩ =>
    show FloatOps.mulf (FloatOps.addf (sigmoid₁ (plane X 1 _ (ix5 b a d h w))) (imageRows (ix5 b a d h w))) _ = _
    rw [imageRows_apply, plane_apply X b a d h w 1 (by decide)]
    rfl
  | ⟨2, _⟩ =>
    show FloatOps.mulf (FloatOps.addf (sigmoid₁ (plane X 2 _ (ix5 b a d h w))) (depths (ix5 b a d h w))) _ = _
    rw [depths_apply, plane_apply X b a d h w 2 (by decide)]
    rfl
  | ⟨3, _⟩ =>
    show FloatOps.mulf (FloatOps.mulf (FloatOps.hostUnary .exp (plane X 3 _ (ix5 b a d h w))) (anchors (ix5 b a d h w))) _ = _
    rw [anchors_apply, plane_apply X b a d h w 3 (by decide)]
    rfl

/-- The class channels at an index. -/
theorem classes_apply (k : Fin 5) :
    classes X (ix6 b a d h w k) = sigmoid₁ (pred X b a d h w ⟨k.val + 5, by omega⟩) := by
  unfold classes
  refine congrArg sigmoid₁ ?_
  rw [extractStridedSlice_apply _ _ _ _ (ix6 b a d h w (⟨k.val + 5, by omega⟩ : Fin 10)) (fun x => by
    match x with
    | ⟨0, _⟩ => show b.val = 0 + b.val; omega
    | ⟨1, _⟩ => show a.val = 0 + a.val; omega
    | ⟨2, _⟩ => show d.val = 0 + d.val; omega
    | ⟨3, _⟩ => show h.val = 0 + h.val; omega
    | ⟨4, _⟩ => show w.val = 0 + w.val; omega
    | ⟨5, _⟩ => show k.val + 5 = 5 + k.val; omega)]
  exact moved_apply X b a d h w _

/-- The result at an index: channel `k`'s formula of its prediction. -/
theorem result_apply (k : Fin 10) (n : Fin 786432)
    (hn : n.val = ((a.val * 64 + d.val) * 64 + h.val) * 64 + w.val) :
    result X (ix3 b n k) = refCell a d.val h.val w.val k.val (pred X b a d h w k) := by
  have off : ∀ {e : ℕ} (k' : Fin e) (y : Fin 3), y ≠ 2 → (ix3 b n k' y).val = (ix3 b n k y).val := fun k' y hy => by
    match y with
    | ⟨0, _⟩ => rfl
    | ⟨1, _⟩ => rfl
    | ⟨2, _⟩ => exact absurd rfl hy
  unfold result
  by_cases h4 : k.val < 4
  · refine (concatenate_apply_piece 2
      [⟨S4x786432x4, shapeCast _ (boxes X) shapeCasts_S4x3x64x64x64x4_S4x786432x4⟩,
       ⟨S4x786432x1, shapeCast _ (sigmoid (plane X 4 slices_S4x3x64x64x64x10_S4x3x64x64x64x1_0_0_0_0_0_4))
          shapeCasts_S4x3x64x64x64_S4x786432x1⟩,
       ⟨S4x786432x5, shapeCast _ (classes X) shapeCasts_S4x3x64x64x64x5_S4x786432x5⟩] _ (ix3 b n k) 0 (by decide : 0 < 3)
      S4x786432x4 _ rfl rfl 0 rfl (ix3 b n (⟨k.val, h4⟩ : Fin 4)) (off _) (by show 0 + k.val = k.val; omega)).trans ?_
    rw [shapeCast_apply _ _ _ (ix6 b a d h w (⟨k.val, h4⟩ : Fin 4)) (by
      rw [Shape.rowMajor_val_three, Shape.rowMajor_val_six]
      show ((((b.val * 3 + a.val) * 64 + d.val) * 64 + h.val) * 64 + w.val) * 4 + k.val
        = (b.val * 786432 + n.val) * 4 + k.val
      omega)]
    exact boxes_apply X b a d h w ⟨k.val, h4⟩
  · by_cases h5 : k.val = 4
    · refine (concatenate_apply_piece 2
        [⟨S4x786432x4, shapeCast _ (boxes X) shapeCasts_S4x3x64x64x64x4_S4x786432x4⟩,
         ⟨S4x786432x1, shapeCast _ (sigmoid (plane X 4 slices_S4x3x64x64x64x10_S4x3x64x64x64x1_0_0_0_0_0_4))
            shapeCasts_S4x3x64x64x64_S4x786432x1⟩,
         ⟨S4x786432x5, shapeCast _ (classes X) shapeCasts_S4x3x64x64x64x5_S4x786432x5⟩] _ (ix3 b n k) 1 (by decide : 1 < 3)
        S4x786432x1 _ rfl rfl 4 rfl (ix3 b n (0 : Fin 1)) (off _) (by show 4 + 0 = k.val; omega)).trans ?_
      rw [shapeCast_apply _ _ _ (ix5 b a d h w) (by
        rw [Shape.rowMajor_val_three, Shape.rowMajor_val_five]
        show (((b.val * 3 + a.val) * 64 + d.val) * 64 + h.val) * 64 + w.val
          = (b.val * 786432 + n.val) * 1 + 0
        omega)]
      obtain rfl : k = 4 := Fin.ext h5
      rw [sigmoid_apply, plane_apply X b a d h w 4 (by decide)]
      rfl
    · have hk : k.val < 10 := k.isLt
      refine (concatenate_apply_piece 2
        [⟨S4x786432x4, shapeCast _ (boxes X) shapeCasts_S4x3x64x64x64x4_S4x786432x4⟩,
         ⟨S4x786432x1, shapeCast _ (sigmoid (plane X 4 slices_S4x3x64x64x64x10_S4x3x64x64x64x1_0_0_0_0_0_4))
            shapeCasts_S4x3x64x64x64_S4x786432x1⟩,
         ⟨S4x786432x5, shapeCast _ (classes X) shapeCasts_S4x3x64x64x64x5_S4x786432x5⟩] _ (ix3 b n k) 2 (by decide : 2 < 3)
        S4x786432x5 _ rfl rfl 5 rfl (ix3 b n (⟨k.val - 5, by omega⟩ : Fin 5)) (off _)
        (by show 5 + (k.val - 5) = k.val; omega)).trans ?_
      rw [shapeCast_apply _ _ _ (ix6 b a d h w (⟨k.val - 5, by omega⟩ : Fin 5)) (by
        rw [Shape.rowMajor_val_three, Shape.rowMajor_val_six]
        show ((((b.val * 3 + a.val) * 64 + d.val) * 64 + h.val) * 64 + w.val) * 5 + (k.val - 5)
          = (b.val * 786432 + n.val) * 5 + (k.val - 5)
        omega)]
      rw [classes_apply X b a d h w]
      rw [show (⟨k.val - 5 + 5, by omega⟩ : Fin 10) = k from Fin.ext (by show k.val - 5 + 5 = k.val; omega)]
      match k, h4, h5 with
      | ⟨0, _⟩, h4, _ => exact absurd (show 0 < 4 by decide) h4
      | ⟨1, _⟩, h4, _ => exact absurd (show 1 < 4 by decide) h4
      | ⟨2, _⟩, h4, _ => exact absurd (show 2 < 4 by decide) h4
      | ⟨3, _⟩, h4, _ => exact absurd (show 3 < 4 by decide) h4
      | ⟨_ + 4, _⟩, _, _ => rfl

end

end Cert.ReferenceIdeal.Hand

end
-- ==== Proof.Equation.lean ====
/-
  THE EQUATION. Over the ideal reals the kernel's formula of one prediction and the reference's are the same. The kernel's
  logistic is 1 / (1 + exp (−v)) by definition, which the reference writes out. The kernel multiplies the exponential by the
  anchor's size in pixels (10, 16 or 33), the reference by its size in strides (2.5, 4 or 8.25) and then by the stride 4.
-/
module

public import proofs.«01_k».proof.Proof.Result
public import proofs.«01_k».proof.Proof.Ref

@[expose] public section

noncomputable section

namespace Cert.Equation

open Idealize.ShloMosaic
open Idealize.ShloMosaic.ValueIdx (ix3 ix5 eq_ix3)

/-- The constant 1. -/
theorem one_eq : Ideal.ofBits .f32 0x3F800000#32 = 1 := by
  simp [Ideal.ofBits, Ideal.ieee, -EReal.coe_mul]; norm_num

/-- The constant 4. -/
theorem four_eq : Ideal.ofBits .f32 0x40800000#32 = ((4 : ℝ) : EReal) := by
  simp [Ideal.ofBits, Ideal.ieee, -EReal.coe_mul]; norm_num

/-- The anchors' sizes in strides. -/
theorem strides_eq : Ideal.ofBits .f32 0x40200000#32 = ((2.5 : ℝ) : EReal)
    ∧ Ideal.ofBits .f32 0x41040000#32 = ((8.25 : ℝ) : EReal) := by
  constructor <;> (simp [Ideal.ofBits, Ideal.ieee, -EReal.coe_mul]; norm_num)

/-- The anchors' sizes in pixels. -/
theorem pixels_eq : Ideal.ofBits .f32 0x41200000#32 = ((10 : ℝ) : EReal)
    ∧ Ideal.ofBits .f32 0x41800000#32 = ((16 : ℝ) : EReal)
    ∧ Ideal.ofBits .f32 0x42040000#32 = ((33 : ℝ) : EReal) := by
  refine ⟨?_, ?_, ?_⟩ <;> (simp [Ideal.ofBits, Ideal.ieee, -EReal.coe_mul]; norm_num)

/-- The reference's written-out logistic is the kernel's. -/
theorem sigmoid_eq (v : Ideal .f32) : FloatOps.logistic v = Cert.ReferenceIdeal.Hand.sigmoid₁ v := by
  unfold Cert.ReferenceIdeal.Hand.sigmoid₁
  simp only [Ideal.logistic_def, Ideal.hostDivf_def, Ideal.ofBits_def, Ideal.addf_def, Ideal.hostUnary_exp_def,
    Ideal.hostNegf_def, one_eq]
  rfl

/-- An anchor's size in pixels is its size in strides times the stride. -/
theorem anchor_eq (a : Fin 3) : Cert.KernelIdeal.Hand.anchor (F := Ideal) a.val
    = (Ideal.ofBits .f32 (Cert.ReferenceIdeal.lit0 a) : EReal) * Ideal.ofBits .f32 0x40800000#32 := by
  rw [four_eq]
  match a with
  | ⟨0, _⟩ =>
    show Ideal.ofBits .f32 0x41200000#32 = (Ideal.ofBits .f32 0x40200000#32 : EReal) * _
    rw [pixels_eq.1, strides_eq.1, ← EReal.coe_mul]; norm_num
  | ⟨1, _⟩ =>
    show Ideal.ofBits .f32 0x41800000#32 = (Ideal.ofBits .f32 0x40800000#32 : EReal) * _
    rw [pixels_eq.2.1, four_eq, ← EReal.coe_mul]; norm_num
  | ⟨2, _⟩ =>
    show Ideal.ofBits .f32 0x42040000#32 = (Ideal.ofBits .f32 0x41040000#32 : EReal) * _
    rw [pixels_eq.2.2, strides_eq.2, ← EReal.coe_mul]; norm_num

/-- A centre coordinate is the same on both sides. -/
theorem centre_eq (n : ℕ) (v : Ideal .f32) :
    Cert.KernelIdeal.Hand.centre₁ n v = Cert.ReferenceIdeal.Hand.centre₁ n v := by
  unfold Cert.KernelIdeal.Hand.centre₁ Cert.ReferenceIdeal.Hand.centre₁
  rw [sigmoid_eq]

/-- Every channel's formula is the same on both sides. -/
theorem cell_eq (a : Fin 3) (d h w k : ℕ) (v : Ideal .f32) :
    Cert.KernelIdeal.Hand.cell a.val d h w k v = Cert.ReferenceIdeal.Hand.refCell a d h w k v := by
  match k with
  | 0 => exact centre_eq w v
  | 1 => exact centre_eq h v
  | 2 => exact centre_eq d v
  | 3 =>
    show FloatOps.mulf (FloatOps.exp v) (Cert.KernelIdeal.Hand.anchor a.val)
      = FloatOps.mulf (FloatOps.mulf (FloatOps.hostUnary .exp v) (FloatOps.ofBits .f32 (Cert.ReferenceIdeal.lit0 a)))
          (FloatOps.ofBits .f32 0x40800000#32)
    simp only [Ideal.mulf_def, Ideal.exp_def, Ideal.hostUnary_exp_def, Ideal.ofBits_def, anchor_eq]
    exact (mul_assoc _ _ _).symm
  | _ + 4 => exact sigmoid_eq v

/-- The kernel's result and the reference's are the same function of the argument. -/
theorem result_eq (X : FVec Ideal Cert.KernelIdeal.S4x30x64x64x64 .f32) :
    Cert.KernelIdeal.Hand.resultOf (F := Ideal) X = Cert.ReferenceIdeal.Hand.result (F := Ideal) X := by
  funext j
  have h0 : (j 0).val < 4 := (j 0).isLt
  have h1 : (j 1).val < 786432 := (j 1).isLt
  have h2 : (j 2).val < 10 := (j 2).isLt
  have hj : j = ix3 (⟨(j 0).val, h0⟩ : Fin 4) (⟨(j 1).val, h1⟩ : Fin 786432) (⟨(j 2).val, h2⟩ : Fin 10) := eq_ix3 j
  have hr := Cert.ReferenceIdeal.Hand.result_apply X (⟨(j 0).val, h0⟩ : Fin 4)
    (⟨(j 1).val / 262144, by omega⟩ : Fin 3) (⟨(j 1).val / 4096 % 64, by omega⟩ : Fin 64)
    (⟨(j 1).val / 64 % 64, by omega⟩ : Fin 64) (⟨(j 1).val % 64, by omega⟩ : Fin 64)
    (⟨(j 2).val, h2⟩ : Fin 10) (⟨(j 1).val, h1⟩ : Fin 786432)
    (by
      show (j 1).val = (((j 1).val / 262144 * 64 + (j 1).val / 4096 % 64) * 64 + (j 1).val / 64 % 64) * 64 + (j 1).val % 64
      omega)
  rw [← cell_eq] at hr
  rw [hj]
  exact hr.symm

end Cert.Equation

end
-- ==== Proof.lean ====
/-
  THE CERTIFICATE'S CLAIMS, ASSEMBLED: the frames of the kernel (at the machine's floats and at the ideal reals, by one run)
  and of the reference, and the equality of the two results over the ideal reals.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Result
public import proofs.«01_k».proof.Proof.Ref
public import proofs.«01_k».proof.Proof.Equation
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem
open Cert.Kernel.Gen Cert.KernelIdeal.Gen Cert.ReferenceIdeal.Gen

/-- The kernel over the ideal reals runs, and leaves its argument and every semaphore as they were. -/
theorem frame_kernelIdeal : Cert.quiescent_KernelIdeal := fun m ρ _ => Cert.KernelIdeal.Hand.frame (F := Ideal) m ρ

/-- The two programs' tables of kernel bodies are one. -/
theorem bodies_eq {F : FTy → Type} [FloatOps F] :
    Cert.Kernel.defs₀ (F := F) = Cert.KernelIdeal.defs₀ (F := F) := by
  funext k ℓ x
  match k with
  | .tc =>
    match ℓ, x with
    | ⟨0, _⟩, (_, _) => rfl
  | .scScalar _ => rfl
  | .scVector _ _ => rfl

/-- And so are their tables of regions over them. -/
theorem defs_eq {F : FTy → Type} [FloatOps F] : Cert.Kernel.defs (F := F) = Cert.KernelIdeal.defs (F := F) :=
  congrArg (Pipeline.defs (Cert.KernelIdeal.pcfgs (F := F))) bodies_eq

/-- The kernel over the machine's floats does too: the same program, the same run. -/
theorem frame_kernel : Cert.quiescent_Kernel := fun m ρ _ => by
  rw [defs_eq]
  exact Cert.KernelIdeal.Hand.frame (F := Bits) m ρ

/-- The reference runs, and leaves its argument and every semaphore as they were. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the ideal reals the kernel and the reference end with the same result. -/
theorem algebraic : Cert.algebraic_KernelIdeal_ReferenceIdeal := by
  intro m ρ m' ρ' _ hagree
  refine ⟨fun c => Cert.KernelIdeal.Hand.resultOf
      (m ((c.tc : Thread Cert.KernelIdeal.nD Cert.KernelIdeal.τ).loc Cert.KernelIdeal.main_arg0)),
    Cert.KernelIdeal.Hand.run_value (F := Ideal) m ρ, ?_⟩
  refine (θ_run Cert.ReferenceIdeal.defs _ _).mono (fun r h c => ⟨(h c).1.trans ?_, (h c).2⟩)
    (Cert.ReferenceIdeal.Value.run (F := Ideal) m' ρ')
  refine (Cert.ReferenceIdeal.Hand.res_eq m' c).trans ?_
  rw [hagree c]
  exact (Cert.Equation.result_eq _).symm

/-- The claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
